-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7)
      ∧ r.2.mem ((c.tc : Thread Cert.ConvReferenceIdeal.nD Cert.ConvReferenceIdeal.τ).loc Cert.ConvReferenceIdeal.main_arg8) = m ((c.tc : Thread Cert.ConvReferenceIdeal.nD Cert.ConvReferenceIdeal.τ).loc Cert.ConvReferenceIdeal.main_arg8))
      ∧ r.2.sem = fun _ => 0)

def preserves_Kernel_KernelIdeal : Prop :=
  True

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v30) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_Attn_AttnIdeal : Prop :=
  True

def algebraic_AttnIdeal_AttnReferenceIdeal_pre_attn_finite [hAttnIdeal : Cert.AttnIdeal.Facts] [hAttnReferenceIdeal : Cert.AttnReferenceIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_attn_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v66) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)
      ∧ m' ((c.tc : Thread Cert.ConvReferenceIdeal.nD Cert.ConvReferenceIdeal.τ).loc Cert.ConvReferenceIdeal.main_arg7) = m ((c.tc : Thread Cert.ConvIdeal.nD Cert.ConvIdeal.τ).loc Cert.ConvIdeal.main_arg7)
      ∧ m' ((c.tc : Thread Cert.ConvReferenceIdeal.nD Cert.ConvReferenceIdeal.τ).loc Cert.ConvReferenceIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v16_0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v16_0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v45) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7)
          ∧ r.2.mem ((c.tc : Thread Cert.ConvReferenceIdeal.nD Cert.ConvReferenceIdeal.τ).loc Cert.ConvReferenceIdeal.main_arg8) = m' ((c.tc : Thread Cert.ConvReferenceIdeal.nD Cert.ConvReferenceIdeal.τ).loc Cert.ConvReferenceIdeal.main_arg8))

def Claim : Prop :=
  ∃ (hKernel : Cert.Kernel.Facts) (hKernelIdeal : Cert.KernelIdeal.Facts) (hQkv : Cert.Qkv.Facts) (hQkvIdeal : Cert.QkvIdeal.Facts) (hQkvReferenceIdeal : Cert.QkvReferenceIdeal.Facts) (hAttn : Cert.Attn.Facts) (hAttnIdeal : Cert.AttnIdeal.Facts) (hAttnReferenceIdeal : Cert.AttnReferenceIdeal.Facts) (hConv : Cert.Conv.Facts) (hConvIdeal : Cert.ConvIdeal.Facts) (hConvReferenceIdeal : Cert.ConvReferenceIdeal.Facts) (hPre_attn_finite : Cert.Pre_attn_finite.Facts),
    quiescent_Kernel (hKernel := hKernel)
    ∧ quiescent_KernelIdeal (hKernelIdeal := hKernelIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ preserves_Qkv_QkvIdeal
    ∧ algebraic_QkvIdeal_QkvReferenceIdeal (hQkvIdeal := hQkvIdeal) (hQkvReferenceIdeal := hQkvReferenceIdeal)
    ∧ preserves_Attn_AttnIdeal
    ∧ algebraic_AttnIdeal_AttnReferenceIdeal_pre_attn_finite (hAttnIdeal := hAttnIdeal) (hAttnReferenceIdeal := hAttnReferenceIdeal) (hPre_attn_finite := hPre_attn_finite)
    ∧ preserves_Conv_ConvIdeal
    ∧ algebraic_ConvIdeal_ConvReferenceIdeal (hConvIdeal := hConvIdeal) (hConvReferenceIdeal := hConvReferenceIdeal)
-- ==== Pre_attn_finite.lean ====
abbrev S2x1152x3072 : Shape := ⟨3, ![2, 1152, 3072]⟩
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S2x1152x3072 : S_.BroadcastsInDim S2x1152x3072 (![] : Fin 0 → Fin S2x1152x3072.rank)
  reducesTo_S2x1152x3072_S_d0_1_2 : S2x1152x3072.ReducesTo [0, 1, 2] S_
  h_S_ : 0 < S_.numel

variable [Facts]

def fn {F : FTy → Type} [FloatOps F] (main_arg0 : FVec F S2x1152x3072 .bf16) (main_arg1 : FVec F S2x2048x1024 .f32) (main_arg2 : FVec F S1024x1024 .f32) (main_arg3 : FVec F S1024 .f32) : IVec S_ 1 :=
  let main_v0 : FVec F S2x1152x3072 .f32 := (extf .f32 · bitsLt_bf16_f32) main_arg0
  let main_v1 : FVec F S2x1152x3072 .f32 := Host.absf main_v0
  let main_cst : FVec F S_ .f32 := constant S_ .f32 0x7F800000#32
  let main_v2 : FVec F S2x1152x3072 .f32 := broadcastInDim S2x1152x3072 ![] bcast_S_S2x1152x3072 main_cst
  let main_v3 : IVec S2x1152x3072 1 := cmpf .olt main_v1 main_v2
  let main_c : IVec S_ 1 := constantI S_ 1 1#1
  let main_v4 : IVec S_ 1 := (fun x v => Host.reduce IntOp.andi x v reducesTo_S2x1152x3072_S_d0_1_2 h_S_) main_v3 main_c
  main_v4
-- ==== Kernel.lean ====
abbrev S2x2048x1024 : Shape := ⟨3, ![2, 2048, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S1024x1024x3 : Shape := ⟨3, ![1024, 1024, 3]⟩
abbrev S8x1024 : Shape := ⟨2, ![8, 1024]⟩
abbrev S8 : Shape := ⟨1, ![8]⟩
abbrev S8x1024x1024 : Shape := ⟨3, ![8, 1024, 1024]⟩
abbrev S1x1024 : Shape := ⟨2, ![1, 1024]⟩
abbrev S1x3072 : Shape := ⟨2, ![1, 3072]⟩
abbrev S2x1152x3072 : Shape := ⟨3, ![2, 1152, 3072]⟩
abbrev S1x384x1024 : Shape := ⟨3, ![1, 384, 1024]⟩
abbrev S1x384x3072 : Shape := ⟨3, ![1, 384, 3072]⟩
abbrev S384x1024 : Shape := ⟨2, ![384, 1024]⟩
abbrev S384 : Shape := ⟨1, ![384]⟩
abbrev S384x1 : Shape := ⟨2, ![384, 1]⟩
abbrev S384x3072 : Shape := ⟨2, ![384, 3072]⟩
abbrev S1x128x3072 : Shape := ⟨3, ![1, 128, 3072]⟩
abbrev S1x512x1024 : Shape := ⟨3, ![1, 512, 1024]⟩
abbrev S128x3072 : Shape := ⟨2, ![128, 3072]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S64x128 : Shape := ⟨2, ![64, 128]⟩
abbrev S64x4096 : Shape := ⟨2, ![64, 4096]⟩
abbrev S256x1024 : Shape := ⟨2, ![256, 1024]⟩
abbrev S512x1024 : Shape := ⟨2, ![512, 1024]⟩
abbrev S1024x1024x1 : Shape := ⟨3, ![1024, 1024, 1]⟩
abbrev S1x8 : Shape := ⟨2, ![1, 8]⟩
abbrev S1x1 : Shape := ⟨2, ![1, 1]⟩
abbrev S8x8 : Shape := ⟨2, ![8, 8]⟩
abbrev S1x8x1024 : Shape := ⟨3, ![1, 8, 1024]⟩
abbrev S512 : Shape := ⟨1, ![512]⟩
abbrev S512x1 : Shape := ⟨2, ![512, 1]⟩
abbrev S1x2x1024 : Shape := ⟨3, ![1, 2, 1024]⟩
abbrev S2x1024 : Shape := ⟨2, ![2, 1024]⟩
abbrev S2 : Shape := ⟨1, ![2]⟩
abbrev S2x1 : Shape := ⟨2, ![2, 1]⟩
abbrev S510x1024 : Shape := ⟨2, ![510, 1024]⟩
abbrev S512x8 : Shape := ⟨2, ![512, 8]⟩
abbrev S1 : Shape := ⟨1, ![1]⟩
abbrev S8x1 : Shape := ⟨2, ![8, 1]⟩
abbrev S1x8x1 : Shape := ⟨3, ![1, 8, 1]⟩
abbrev S1x1x1 : Shape := ⟨3, ![1, 1, 1]⟩
abbrev S1x2 : Shape := ⟨2, ![1, 2]⟩
abbrev S8x1x1024 : Shape := ⟨3, ![8, 1, 1024]⟩
abbrev S1x1024x1024 : Shape := ⟨3, ![1, 1024, 1024]⟩
abbrev S1x1x1024 : Shape := ⟨3, ![1, 1, 1024]⟩
abbrev S_ : Shape := ⟨0, ![]⟩

abbrev nBuf : Space → Nat
  | .hbm => 50
  | .vmem => 50
  | .smem => 1
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024x3, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S8x1024, .f32⟩
  | .hbm, ⟨14, _⟩ => ⟨S8, .f32⟩
  | .hbm, ⟨15, _⟩ => ⟨S8x1024x1024, .f32⟩
  | .hbm, ⟨16, _⟩ => ⟨S8x1024, .f32⟩
  | .hbm, ⟨17, _⟩ => ⟨S1x1024, .f32⟩
  | .hbm, ⟨18, _⟩ => ⟨S1x1024, .f32⟩
  | .hbm, ⟨19, _⟩ => ⟨S3072x1024, .bf16⟩
  | .hbm, ⟨20, _⟩ => ⟨S1x3072, .f32⟩
  | .hbm, ⟨21, _⟩ => ⟨S2x1152x3072, .bf16⟩
  | .hbm, ⟨22, _⟩ => ⟨S1024x1024, .bf16⟩
  | .hbm, ⟨23, _⟩ => ⟨S1x1024, .f32⟩
  | .hbm, ⟨24, _⟩ => ⟨S2x2048x1024, .f32⟩
  | .hbm, ⟨25, _⟩ => ⟨S1x1024, .f32⟩
  | .hbm, ⟨26, _⟩ => ⟨S1x1024, .f32⟩
  | .hbm, ⟨27, _⟩ => ⟨S1024x1024x1, .f32⟩
  | .hbm, ⟨28, _⟩ => ⟨S1024x1024, .f32⟩
  | .hbm, ⟨29, _⟩ => ⟨S1024x1024, .bf16⟩
  | .hbm, ⟨30, _⟩ => ⟨S1024x1024x1, .f32⟩
  | .hbm, ⟨31, _⟩ => ⟨S1024x1024, .f32⟩
  | .hbm, ⟨32, _⟩ => ⟨S1024x1024, .bf16⟩
  | .hbm, ⟨33, _⟩ => ⟨S1024x1024x1, .f32⟩
  | .hbm, ⟨34, _⟩ => ⟨S1024x1024, .f32⟩
  | .hbm, ⟨35, _⟩ => ⟨S1024x1024, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S8x1024, .bf16⟩
  | .hbm, ⟨40, _⟩ => ⟨S1x8, .f32⟩
  | .hbm, ⟨41, _⟩ => ⟨S2x2048x1024, .f32⟩
  | .hbm, ⟨42, _⟩ => ⟨S1x1, .f32⟩
  | .hbm, ⟨43, _⟩ => ⟨S8x1024, .f32⟩
  | .hbm, ⟨44, _⟩ => ⟨S8x8, .f32⟩
  | .hbm, ⟨45, _⟩ => ⟨S1x8, .i32⟩
  | .hbm, ⟨46, _⟩ => ⟨S1x2, .i32⟩
  | .hbm, ⟨47, _⟩ => ⟨S8x1x1024, .f32⟩
  | .hbm, ⟨48, _⟩ => ⟨S2x2048x1024, .f32⟩
  | .hbm, ⟨49, _⟩ => ⟨S_, .f32⟩
  | .local _ .vmem, ⟨0, _⟩ => ⟨S1x384x1024, .f32⟩
  | .local _ .vmem, ⟨1, _⟩ => ⟨S1x384x1024, .f32⟩
  | .local _ .vmem, ⟨2, _⟩ => ⟨S1x1024, .f32⟩
  | .local _ .vmem, ⟨3, _⟩ => ⟨S1x1024, .f32⟩
  | .local _ .vmem, ⟨4, _⟩ => ⟨S3072x1024, .bf16⟩
  | .local _ .vmem, ⟨5, _⟩ => ⟨S1x3072, .f32⟩
  | .local _ .vmem, ⟨6, _⟩ => ⟨S1x384x3072, .bf16⟩
  | .local _ .vmem, ⟨7, _⟩ => ⟨S1x384x3072, .bf16⟩
  | .local _ .vmem, ⟨8, _⟩ => ⟨S1x128x3072, .bf16⟩
  | .local _ .vmem, ⟨9, _⟩ => ⟨S1x128x3072, .bf16⟩
  | .local _ .vmem, ⟨10, _⟩ => ⟨S1x128x3072, .bf16⟩
  | .local _ .vmem, ⟨11, _⟩ => ⟨S1x128x3072, .bf16⟩
  | .local _ .vmem, ⟨12, _⟩ => ⟨S1x128x3072, .bf16⟩
  | .local _ .vmem, ⟨13, _⟩ => ⟨S1x128x3072, .bf16⟩
  | .local _ .vmem, ⟨14, _⟩ => ⟨S1x512x1024, .f32⟩
  | .local _ .vmem, ⟨15, _⟩ => ⟨S1x512x1024, .f32⟩
  | .local _ .vmem, ⟨16, _⟩ => ⟨S1024x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x8x1024, .f32⟩
  | .local _ .vmem, ⟨21, _⟩ => ⟨S1x8x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x8x1024, .f32⟩
  | .local _ .vmem, ⟨25, _⟩ => ⟨S1x8x1024, .f32⟩
  | .local _ .vmem, ⟨26, _⟩ => ⟨S1x1024, .f32⟩
  | .local _ .vmem, ⟨27, _⟩ => ⟨S1x1024, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S8x1024, .bf16⟩
  | .local _ .vmem, ⟨35, _⟩ => ⟨S1x8, .f32⟩
  | .local _ .vmem, ⟨36, _⟩ => ⟨S1x512x1024, .f32⟩
  | .local _ .vmem, ⟨37, _⟩ => ⟨S1x512x1024, .f32⟩
  | .local _ .vmem, ⟨38, _⟩ => ⟨S1x1, .f32⟩
  | .local _ .vmem, ⟨39, _⟩ => ⟨S8x1024, .f32⟩
  | .local _ .vmem, ⟨40, _⟩ => ⟨S8x8, .f32⟩
  | .local _ .vmem, ⟨41, _⟩ => ⟨S1x8, .i32⟩
  | .local _ .vmem, ⟨42, _⟩ => ⟨S8x1024, .f32⟩
  | .local _ .vmem, ⟨43, _⟩ => ⟨S8x8, .f32⟩
  | .local _ .vmem, ⟨44, _⟩ => ⟨S1x8x1024, .f32⟩
  | .local _ .vmem, ⟨45, _⟩ => ⟨S1x1024x1024, .f32⟩
  | .local _ .vmem, ⟨46, _⟩ => ⟨S1x1024x1024, .f32⟩
  | .local _ .vmem, ⟨47, _⟩ => ⟨S1x1x1024, .f32⟩
  | .local _ .vmem, ⟨48, _⟩ => ⟨S1x1x1024, .f32⟩
  | .local _ .vmem, ⟨49, _⟩ => ⟨S1x8x1024, .f32⟩
  | .local _ .smem, ⟨0, _⟩ => ⟨S2, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_v24_3 : Ref sig .tc := ⟨.hbm, 44, rfl⟩
abbrev main_v24_4 : Ref sig .tc := ⟨.hbm, 45, rfl⟩
abbrev main_v25 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v26 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg13_1 : Ref sig .tc := ⟨.vmem, 37, rfl⟩
abbrev cc2_stg14_0 : Ref sig .tc := ⟨.vmem, 38, rfl⟩
abbrev cc2_stg15_0 : Ref sig .tc := ⟨.vmem, 39, rfl⟩
abbrev cc2_stg16_0 : Ref sig .tc := ⟨.vmem, 40, rfl⟩
abbrev cc2_stg17_0 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem12_0 : DmaSem sig := 35
abbrev cc2_sem13_0 : DmaSem sig := 36
abbrev cc2_sem13_1 : DmaSem sig := 37
abbrev cc2_sem14_0 : DmaSem sig := 38
abbrev cc2_sem15_0 : DmaSem sig := 39
abbrev cc2_sem16_0 : DmaSem sig := 40
abbrev cc2_sem17_0 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem3_1 : DmaSem sig := 46
abbrev cc3_sem4_0 : DmaSem sig := 47
abbrev cc3_sem4_1 : DmaSem sig := 48
abbrev cc3_sem5_0 : DmaSem sig := 49

abbrev nD : Nat := 1
abbrev τ : Topo := Topo.v7x

variable {F : FTy → Type} [FloatOps F]

abbrev grid0 : Pipeline.Grid := ⟨2, ![2, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x384x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, v0.toNat, c0_i32.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c0_i32 : BitVec 32 := 0#32
  let c0_i32_1 : BitVec 32 := 0#32
  ![arg0.toNat, v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 4], ![false, false]⟩

def k2_cond1 (i : grid2.Coords) : BitVec 1 :=
  let arg0 : BitVec 32 := BitVec.ofNat 32 (i 0).val
  let c0_i32_61 : BitVec 32 := 0#32
  let v155 : BitVec 1 := Scalar.cmpi .eq arg0 c0_i32_61
  let arg1 : BitVec 32 := BitVec.ofNat 32 (i 1).val
  let c0_i32_62 : BitVec 32 := 0#32
  let v156 : BitVec 1 := Scalar.cmpi .eq arg1 c0_i32_62
  let v157 : BitVec 1 := Scalar.andi v155 v156
  let v158 : BitVec 32 := Scalar.extui v157
  let c0_i32_63 : BitVec 32 := 0#32
  let v159 : BitVec 1 := Scalar.cmpi .ne v158 c0_i32_63
  v159

def cc2_transform_0 (i : grid2.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c64_i32_0 : BitVec 32 := 64#32
  let v1 : BitVec 32 := Scalar.addi v0 c64_i32_0
  let c255_i32 : BitVec 32 := 255#32
  let v2 : BitVec 32 := Scalar.minsi v1 c255_i32
  let c0_i32 : BitVec 32 := 0#32
  let c0_i32_1 : BitVec 32 := 0#32
  ![arg0.toNat, v2.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1024x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S8x1024 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x8 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 2 → Memref sig .tc .vmem S1x512x1024 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 1 → Memref sig .tc .vmem S1x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S8x1024 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 1 → Memref sig .tc .vmem S8x8 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false, false]

abbrev stage2_17 : Fin 1 → Memref sig .tc .vmem S1x8 .i32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false, false]

abbrev grid3 : Pipeline.Grid := ⟨1, ![2], ![false]⟩

abbrev pre3 : Pipeline.Prefetch sig := ⟨1, ![main_v26.idx], fun | 0 => main_v26.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def k3_cond1 (i : grid3.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_11 : BitVec 32 := 0#32
  let v24 : BitVec 1 := Scalar.cmpi .ne v23 c0_i32_11
  v24

def k3_cond2 (i : grid3.Coords) : BitVec 1 :=
  let arg0 : BitVec 32 := BitVec.ofNat 32 (i 0).val
  let c0_i32_12 : BitVec 32 := 0#32
  let v25 : BitVec 1 := Scalar.cmpi .sgt arg0 c0_i32_12
  let v26 : BitVec 32 := Scalar.extui v25
  let c0_i32_13 : BitVec 32 := 0#32
  let v27 : BitVec 1 := Scalar.cmpi .ne v26 c0_i32_13
  v27

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (k3_off1_inb : ∀ i : grid3.Coords, ∀ a, (k3_off1 i) a + S1.size a ≤ S2.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S2) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_4 (k3_off1_inb : ∀ i : grid3.Coords, ∀ a, (k3_off1 i) a + S1.size a ≤ S2.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S2) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 1 → Memref sig .tc .vmem S8x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S8x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x8x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]
-- ==== Qkv.lean ====
abbrev S2x2048x1024 : Shape := ⟨3, ![2, 2048, 1024]⟩
abbrev S1024 : Shape := ⟨1, ![1024]⟩
abbrev S3072x1024 : Shape := ⟨2, ![3072, 1024]⟩
abbrev S3072 : Shape := ⟨1, ![3072]⟩
abbrev S1x1024 : Shape := ⟨2, ![1, 1024]⟩
abbrev S1x3072 : Shape := ⟨2, ![1, 3072]⟩
abbrev S2x1152x3072 : Shape := ⟨3, ![2, 1152, 3072]⟩
abbrev S1x384x1024 : Shape := ⟨3, ![1, 384, 1024]⟩
abbrev S1x384x3072 : Shape := ⟨3, ![1, 384, 3072]⟩
abbrev S384x1024 : Shape := ⟨2, ![384, 1024]⟩
abbrev S384 : Shape := ⟨1, ![384]⟩
abbrev S384x1 : Shape := ⟨2, ![384, 1]⟩
abbrev S384x3072 : Shape := ⟨2, ![384, 3072]⟩

abbrev nBuf : Space → Nat
  | .hbm => 10
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S3072x1024, .f32⟩
  | .hbm, ⟨4, _⟩ => ⟨S3072, .f32⟩
  | .hbm, ⟨5, _⟩ => ⟨S1x1024, .f32⟩
  | .hbm, ⟨6, _⟩ => ⟨S1x1024, .f32⟩
  | .hbm, ⟨7, _⟩ => ⟨S3072x1024, .bf16⟩
  | .hbm, ⟨8, _⟩ => ⟨S1x3072, .f32⟩
  | .hbm, ⟨9, _⟩ => ⟨S2x1152x3072, .bf16⟩
  | .local _ .vmem, ⟨0, _⟩ => ⟨S1x384x1024, .f32⟩
  | .local _ .vmem, ⟨1, _⟩ => ⟨S1x384x1024, .f32⟩
  | .local _ .vmem, ⟨2, _⟩ => ⟨S1x1024, .f32⟩
  | .local _ .vmem, ⟨3, _⟩ => ⟨S1x1024, .f32⟩
  | .local _ .vmem, ⟨4, _⟩ => ⟨S3072x1024, .bf16⟩
  | .local _ .vmem, ⟨5, _⟩ => ⟨S1x3072, .f32⟩
  | .local _ .vmem, ⟨6, _⟩ => ⟨S1x384x3072, .bf16⟩
  | .local _ .vmem, ⟨7, _⟩ => ⟨S1x384x3072, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x384x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvReferenceIdeal.lean ====
abbrev S2x2048x1024 : Shape := ⟨3, ![2, 2048, 1024]⟩
abbrev S1024 : Shape := ⟨1, ![1024]⟩
abbrev S3072x1024 : Shape := ⟨2, ![3072, 1024]⟩
abbrev S3072 : Shape := ⟨1, ![3072]⟩
abbrev S2x1152x1024 : Shape := ⟨3, ![2, 1152, 1024]⟩
abbrev S_ : Shape := ⟨0, ![]⟩
abbrev S2x1152 : Shape := ⟨2, ![2, 1152]⟩
abbrev S2x1152x1 : Shape := ⟨3, ![2, 1152, 1]⟩
abbrev S1x1x1024 : Shape := ⟨3, ![1, 1, 1024]⟩
abbrev S1024x3072 : Shape := ⟨2, ![1024, 3072]⟩
abbrev S2x1152x3072 : Shape := ⟨3, ![2, 1152, 3072]⟩
abbrev S1x1x3072 : Shape := ⟨3, ![1, 1, 3072]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S3072x1024, .f32⟩
  | .hbm, ⟨4, _⟩ => ⟨S3072, .f32⟩
  | .hbm, ⟨5, _⟩ => ⟨S2x1152x1024, .f32⟩
  | .hbm, ⟨6, _⟩ => ⟨S_, .f32⟩
  | .hbm, ⟨7, _⟩ => ⟨S2x1152, .f32⟩
  | .hbm, ⟨8, _⟩ => ⟨S2x1152x1, .f32⟩
  | .hbm, ⟨9, _⟩ => ⟨S_, .f32⟩
  | .hbm, ⟨10, _⟩ => ⟨S2x1152x1, .f32⟩
  | .hbm, ⟨11, _⟩ => ⟨S2x1152x1, .f32⟩
  | .hbm, ⟨12, _⟩ => ⟨S2x1152x1024, .f32⟩
  | .hbm, ⟨13, _⟩ => ⟨S2x1152x1024, .f32⟩
  | .hbm, ⟨14, _⟩ => ⟨S2x1152x1024, .f32⟩
  | .hbm, ⟨15, _⟩ => ⟨S_, .f32⟩
  | .hbm, ⟨16, _⟩ => ⟨S2x1152, .f32⟩
  | .hbm, ⟨17, _⟩ => ⟨S2x1152x1, .f32⟩
  | .hbm, ⟨18, _⟩ => ⟨S_, .f32⟩
  | .hbm, ⟨19, _⟩ => ⟨S2x1152x1, .f32⟩
  | .hbm, ⟨20, _⟩ => ⟨S2x1152x1, .f32⟩
  | .hbm, ⟨21, _⟩ => ⟨S2x1152x1024, .f32⟩
  | .hbm, ⟨22, _⟩ => ⟨S2x1152x1024, .f32⟩
  | .hbm, ⟨23, _⟩ => ⟨S_, .f32⟩
  | .hbm, ⟨24, _⟩ => ⟨S2x1152x1, .f32⟩
  | .hbm, ⟨25, _⟩ => ⟨S2x1152x1, .f32⟩
  | .hbm, ⟨26, _⟩ => ⟨S2x1152x1, .f32⟩
  | .hbm, ⟨27, _⟩ => ⟨S2x1152x1024, .f32⟩
  | .hbm, ⟨28, _⟩ => ⟨S2x1152x1024, .f32⟩
  | .hbm, ⟨29, _⟩ => ⟨S1x1x1024, .f32⟩
  | .hbm, ⟨30, _⟩ => ⟨S2x1152x1024, .f32⟩
  | .hbm, ⟨31, _⟩ => ⟨S2x1152x1024, .f32⟩
  | .hbm, ⟨32, _⟩ => ⟨S1x1x1024, .f32⟩
  | .hbm, ⟨33, _⟩ => ⟨S2x1152x1024, .f32⟩
  | .hbm, ⟨34, _⟩ => ⟨S2x1152x1024, .f32⟩
  | .hbm, ⟨35, _⟩ => ⟨S1024x3072, .f32⟩
  | .hbm, ⟨36, _⟩ => ⟨S2x1152x3072, .f32⟩
  | .hbm, ⟨37, _⟩ => ⟨S1x1x3072, .f32⟩
  | .hbm, ⟨38, _⟩ => ⟨S2x1152x3072, .f32⟩
  | .hbm, ⟨39, _⟩ => ⟨S2x1152x3072, .f32⟩
  | .hbm, ⟨40, _⟩ => ⟨S2x1152x3072, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Attn.lean ====
abbrev S2x1152x3072 : Shape := ⟨3, ![2, 1152, 3072]⟩
abbrev S2x2048x1024 : Shape := ⟨3, ![2, 2048, 1024]⟩
abbrev S1024x1024 : Shape := ⟨2, ![1024, 1024]⟩
abbrev S1024 : Shape := ⟨1, ![1024]⟩
abbrev S1x1024 : Shape := ⟨2, ![1, 1024]⟩
abbrev S1x128x3072 : Shape := ⟨3, ![1, 128, 3072]⟩
abbrev S1x512x1024 : Shape := ⟨3, ![1, 512, 1024]⟩
abbrev S128x3072 : Shape := ⟨2, ![128, 3072]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S64x128 : Shape := ⟨2, ![64, 128]⟩
abbrev S64x4096 : Shape := ⟨2, ![64, 4096]⟩
abbrev S256x1024 : Shape := ⟨2, ![256, 1024]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S2x1152x3072, .bf16⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S2x2048x1024, .f32⟩
  | .local _ .vmem, ⟨0, _⟩ => ⟨S1x128x3072, .bf16⟩
  | .local _ .vmem, ⟨1, _⟩ => ⟨S1x128x3072, .bf16⟩
  | .local _ .vmem, ⟨2, _⟩ => ⟨S1x128x3072, .bf16⟩
  | .local _ .vmem, ⟨3, _⟩ => ⟨S1x128x3072, .bf16⟩
  | .local _ .vmem, ⟨4, _⟩ => ⟨S1x128x3072, .bf16⟩
  | .local _ .vmem, ⟨5, _⟩ => ⟨S1x128x3072, .bf16⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S2x1152x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c0_i32 : BitVec 32 := 0#32
  let c0_i32_1 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnReferenceIdeal.lean ====
abbrev S2x1152x3072 : Shape := ⟨3, ![2, 1152, 3072]⟩
abbrev S2x2048x1024 : Shape := ⟨3, ![2, 2048, 1024]⟩
abbrev S1024x1024 : Shape := ⟨2, ![1024, 1024]⟩
abbrev S1024 : Shape := ⟨1, ![1024]⟩
abbrev S2x1152x3x16x64 : Shape := ⟨5, ![2, 1152, 3, 16, 64]⟩
abbrev S3x2x16x1152x64 : Shape := ⟨5, ![3, 2, 16, 1152, 64]⟩
abbrev S1x2x16x1152x64 : Shape := ⟨5, ![1, 2, 16, 1152, 64]⟩
abbrev S2x16x1152x64 : Shape := ⟨4, ![2, 16, 1152, 64]⟩
abbrev S8 : Shape := ⟨1, ![8]⟩
abbrev S8x1 : Shape := ⟨2, ![8, 1]⟩
abbrev S_ : Shape := ⟨0, ![]⟩
abbrev S256 : Shape := ⟨1, ![256]⟩
abbrev S1x256 : Shape := ⟨2, ![1, 256]⟩
abbrev S8x256 : Shape := ⟨2, ![8, 256]⟩
abbrev S8x256x1 : Shape := ⟨3, ![8, 256, 1]⟩
abbrev S2x16x8x256x64 : Shape := ⟨5, ![2, 16, 8, 256, 64]⟩
abbrev S2x16x8x64x256 : Shape := ⟨5, ![2, 16, 8, 64, 256]⟩
abbrev S2x16x8x64x64 : Shape := ⟨5, ![2, 16, 8, 64, 64]⟩
abbrev S2x16x8x64 : Shape := ⟨4, ![2, 16, 8, 64]⟩
abbrev S2x16x8x64x1 : Shape := ⟨5, ![2, 16, 8, 64, 1]⟩
abbrev S2x16x2048x64 : Shape := ⟨4, ![2, 16, 2048, 64]⟩
abbrev S2x2048x16x64 : Shape := ⟨4, ![2, 2048, 16, 64]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x1152x3072, .bf16⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S2x1152x3072, .f32⟩
  | .hbm, ⟨5, _⟩ => ⟨S2x1152x3x16x64, .f32⟩
  | .hbm, ⟨6, _⟩ => ⟨S3x2x16x1152x64, .f32⟩
  | .hbm, ⟨7, _⟩ => ⟨S1x2x16x1152x64, .f32⟩
  | .hbm, ⟨8, _⟩ => ⟨S2x16x1152x64, .f32⟩
  | .hbm, ⟨9, _⟩ => ⟨S1x2x16x1152x64, .f32⟩
  | .hbm, ⟨10, _⟩ => ⟨S2x16x1152x64, .f32⟩
  | .hbm, ⟨11, _⟩ => ⟨S1x2x16x1152x64, .f32⟩
  | .hbm, ⟨12, _⟩ => ⟨S2x16x1152x64, .f32⟩
  | .hbm, ⟨13, _⟩ => ⟨S8, .i32⟩
  | .hbm, ⟨14, _⟩ => ⟨S8x1, .i32⟩
  | .hbm, ⟨15, _⟩ => ⟨S_, .i32⟩
  | .hbm, ⟨16, _⟩ => ⟨S8x1, .i32⟩
  | .hbm, ⟨17, _⟩ => ⟨S8x1, .i32⟩
  | .hbm, ⟨18, _⟩ => ⟨S256, .i32⟩
  | .hbm, ⟨19, _⟩ => ⟨S1x256, .i32⟩
  | .hbm, ⟨20, _⟩ => ⟨S8x256, .i32⟩
  | .hbm, ⟨21, _⟩ => ⟨S8x256, .i32⟩
  | .hbm, ⟨22, _⟩ => ⟨S8x256, .i32⟩
  | .hbm, ⟨23, _⟩ => ⟨S_, .i32⟩
  | .hbm, ⟨24, _⟩ => ⟨S8x256, .i32⟩
  | .hbm, ⟨25, _⟩ => ⟨S8x256, .i1⟩
  | .hbm, ⟨26, _⟩ => ⟨S_, .i32⟩
  | .hbm, ⟨27, _⟩ => ⟨S8x256, .i32⟩
  | .hbm, ⟨28, _⟩ => ⟨S8x256, .i32⟩
  | .hbm, ⟨29, _⟩ => ⟨S8x256, .i32⟩
  | .hbm, ⟨30, _⟩ => ⟨S8x256x1, .i32⟩
  | .hbm, ⟨31, _⟩ => ⟨S2x16x8x256x64, .f32⟩
  | .hbm, ⟨32, _⟩ => ⟨S2x16x8x64x256, .f32⟩
  | .hbm, ⟨33, _⟩ => ⟨S_, .i32⟩
  | .hbm, ⟨34, _⟩ => ⟨S8x256, .i32⟩
  | .hbm, ⟨35, _⟩ => ⟨S8x256, .i1⟩
  | .hbm, ⟨36, _⟩ => ⟨S_, .i32⟩
  | .hbm, ⟨37, _⟩ => ⟨S8x256, .i32⟩
  | .hbm, ⟨38, _⟩ => ⟨S8x256, .i32⟩
  | .hbm, ⟨39, _⟩ => ⟨S8x256, .i32⟩
  | .hbm, ⟨40, _⟩ => ⟨S8x256x1, .i32⟩
  | .hbm, ⟨41, _⟩ => ⟨S2x16x8x256x64, .f32⟩
  | .hbm, ⟨42, _⟩ => ⟨S2x16x8x64x256, .f32⟩
  | .hbm, ⟨43, _⟩ => ⟨S_, .i32⟩
  | .hbm, ⟨44, _⟩ => ⟨S8x256, .i32⟩
  | .hbm, ⟨45, _⟩ => ⟨S8x256, .i1⟩
  | .hbm, ⟨46, _⟩ => ⟨S_, .i32⟩
  | .hbm, ⟨47, _⟩ => ⟨S8x256, .i32⟩
  | .hbm, ⟨48, _⟩ => ⟨S8x256, .i32⟩
  | .hbm, ⟨49, _⟩ => ⟨S8x256, .i32⟩
  | .hbm, ⟨50, _⟩ => ⟨S8x256x1, .i32⟩
  | .hbm, ⟨51, _⟩ => ⟨S2x16x8x256x64, .f32⟩
  | .hbm, ⟨52, _⟩ => ⟨S2x16x8x64x256, .f32⟩
  | .hbm, ⟨53, _⟩ => ⟨S2x16x8x256x64, .f32⟩
  | .hbm, ⟨54, _⟩ => ⟨S2x16x8x64x64, .f32⟩
  | .hbm, ⟨55, _⟩ => ⟨S_, .f32⟩
  | .hbm, ⟨56, _⟩ => ⟨S2x16x8x64x64, .f32⟩
  | .hbm, ⟨57, _⟩ => ⟨S2x16x8x64x64, .f32⟩
  | .hbm, ⟨58, _⟩ => ⟨S_, .f32⟩
  | .hbm, ⟨59, _⟩ => ⟨S2x16x8x64, .f32⟩
  | .hbm, ⟨60, _⟩ => ⟨S_, .f32⟩
  | .hbm, ⟨61, _⟩ => ⟨S2x16x8x64, .f32⟩
  | .hbm, ⟨62, _⟩ => ⟨S2x16x8x64, .f32⟩
  | .hbm, ⟨63, _⟩ => ⟨S2x16x8x64x1, .f32⟩
  | .hbm, ⟨64, _⟩ => ⟨S2x16x8x64x64, .f32⟩
  | .hbm, ⟨65, _⟩ => ⟨S2x16x8x64x64, .f32⟩
  | .hbm, ⟨66, _⟩ => ⟨S2x16x8x64x64, .f32⟩
  | .hbm, ⟨67, _⟩ => ⟨S_, .f32⟩
  | .hbm, ⟨68, _⟩ => ⟨S2x16x8x64, .f32⟩
  | .hbm, ⟨69, _⟩ => ⟨S2x16x8x64x1, .f32⟩
  | .hbm, ⟨70, _⟩ => ⟨S2x16x8x64x64, .f32⟩
  | .hbm, ⟨71, _⟩ => ⟨S2x16x8x64x64, .f32⟩
  | .hbm, ⟨72, _⟩ => ⟨S2x16x8x64x256, .f32⟩
  | .hbm, ⟨73, _⟩ => ⟨S2x16x2048x64, .f32⟩
  | .hbm, ⟨74, _⟩ => ⟨S2x2048x16x64, .f32⟩
  | .hbm, ⟨75, _⟩ => ⟨S2x2048x1024, .f32⟩
  | .hbm, ⟨76, _⟩ => ⟨S1024x1024, .f32⟩
  | .hbm, ⟨77, _⟩ => ⟨S2x2048x1024, .f32⟩
  | .hbm, ⟨78, _⟩ => ⟨S1x1x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | _, _ => ⟨S2x1152x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== Conv.lean ====
abbrev S2x2048x1024 : Shape := ⟨3, ![2, 2048, 1024]⟩
abbrev S1024 : Shape := ⟨1, ![1024]⟩
abbrev S1024x1024x3 : Shape := ⟨3, ![1024, 1024, 3]⟩
abbrev S8x1024 : Shape := ⟨2, ![8, 1024]⟩
abbrev S8 : Shape := ⟨1, ![8]⟩
abbrev S1x1024 : Shape := ⟨2, ![1, 1024]⟩
abbrev S1024x1024x1 : Shape := ⟨3, ![1024, 1024, 1]⟩
abbrev S1024x1024 : Shape := ⟨2, ![1024, 1024]⟩
abbrev S1x8 : Shape := ⟨2, ![1, 8]⟩
abbrev S1x1 : Shape := ⟨2, ![1, 1]⟩
abbrev S8x8 : Shape := ⟨2, ![8, 8]⟩
abbrev S1x8x1024 : Shape := ⟨3, ![1, 8, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x2x1024 : Shape := ⟨3, ![1, 2, 1024]⟩
abbrev S2x1024 : Shape := ⟨2, ![2, 1024]⟩
abbrev S2 : Shape := ⟨1, ![2]⟩
abbrev S2x1 : Shape := ⟨2, ![2, 1]⟩
abbrev S510x1024 : Shape := ⟨2, ![510, 1024]⟩
abbrev S512x8 : Shape := ⟨2, ![512, 8]⟩
abbrev S1 : Shape := ⟨1, ![1]⟩
abbrev S8x1 : Shape := ⟨2, ![8, 1]⟩
abbrev S1x8x1 : Shape := ⟨3, ![1, 8, 1]⟩
abbrev S1x1x1 : Shape := ⟨3, ![1, 1, 1]⟩

abbrev nBuf : Space → Nat
  | .hbm => 30
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S1024x1024x3, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8x1024, .f32⟩
  | .hbm, ⟨8, _⟩ => ⟨S8, .f32⟩
  | .hbm, ⟨9, _⟩ => ⟨S1x1024, .f32⟩
  | .hbm, ⟨10, _⟩ => ⟨S1x1024, .f32⟩
  | .hbm, ⟨11, _⟩ => ⟨S1024x1024x1, .f32⟩
  | .hbm, ⟨12, _⟩ => ⟨S1024x1024, .f32⟩
  | .hbm, ⟨13, _⟩ => ⟨S1024x1024, .bf16⟩
  | .hbm, ⟨14, _⟩ => ⟨S1024x1024x1, .f32⟩
  | .hbm, ⟨15, _⟩ => ⟨S1024x1024, .f32⟩
  | .hbm, ⟨16, _⟩ => ⟨S1024x1024, .bf16⟩
  | .hbm, ⟨17, _⟩ => ⟨S1024x1024x1, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8x1024, .bf16⟩
  | .hbm, ⟨24, _⟩ => ⟨S1x8, .f32⟩
  | .hbm, ⟨25, _⟩ => ⟨S2x2048x1024, .f32⟩
  | .hbm, ⟨26, _⟩ => ⟨S1x1, .f32⟩
  | .hbm, ⟨27, _⟩ => ⟨S8x1024, .f32⟩
  | .hbm, ⟨28, _⟩ => ⟨S8x8, .f32⟩
  | .hbm, ⟨29, _⟩ => ⟨S1x8, .i32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x1024, .bf16⟩
  | .local _ .vmem, ⟨15, _⟩ => ⟨S1x8, .f32⟩
  | .local _ .vmem, ⟨16, _⟩ => ⟨S1x512x1024, .f32⟩
  | .local _ .vmem, ⟨17, _⟩ => ⟨S1x512x1024, .f32⟩
  | .local _ .vmem, ⟨18, _⟩ => ⟨S1x1, .f32⟩
  | .local _ .vmem, ⟨19, _⟩ => ⟨S8x1024, .f32⟩
  | .local _ .vmem, ⟨20, _⟩ => ⟨S8x8, .f32⟩
  | .local _ .vmem, ⟨21, _⟩ => ⟨S1x8, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem15_0 : DmaSem sig := 19
abbrev cc0_sem16_0 : DmaSem sig := 20
abbrev cc0_sem17_0 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32_61 : BitVec 32 := 0#32
  let v155 : BitVec 1 := Scalar.cmpi .eq arg0 c0_i32_61
  let arg1 : BitVec 32 := BitVec.ofNat 32 (i 1).val
  let c0_i32_62 : BitVec 32 := 0#32
  let v156 : BitVec 1 := Scalar.cmpi .eq arg1 c0_i32_62
  let v157 : BitVec 1 := Scalar.andi v155 v156
  let v158 : BitVec 32 := Scalar.extui v157
  let c0_i32_63 : BitVec 32 := 0#32
  let v159 : BitVec 1 := Scalar.cmpi .ne v158 c0_i32_63
  v159

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c64_i32_0 : BitVec 32 := 64#32
  let v1 : BitVec 32 := Scalar.addi v0 c64_i32_0
  let c255_i32 : BitVec 32 := 255#32
  let v2 : BitVec 32 := Scalar.minsi v1 c255_i32
  let c0_i32 : BitVec 32 := 0#32
  let c0_i32_1 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x8 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ConvReferenceIdeal.lean ====
abbrev S2x2048x1024 : Shape := ⟨3, ![2, 2048, 1024]⟩
abbrev S1024 : Shape := ⟨1, ![1024]⟩
abbrev S1024x1024x3 : Shape := ⟨3, ![1024, 1024, 3]⟩
abbrev S8x1024 : Shape := ⟨2, ![8, 1024]⟩
abbrev S8 : Shape := ⟨1, ![8]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2052x1024 : Shape := ⟨3, ![2, 2052, 1024]⟩
abbrev S1024x1024x1 : Shape := ⟨3, ![1024, 1024, 1]⟩
abbrev S1024x1024 : Shape := ⟨2, ![1024, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S1024x1024x3, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8x1024, .f32⟩
  | .hbm, ⟨8, _⟩ => ⟨S8, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S_, .i32⟩
  | .hbm, ⟨39, _⟩ => ⟨S_, .f32⟩
  | .hbm, ⟨40, _⟩ => ⟨S2x2052x1024, .f32⟩
  | .hbm, ⟨41, _⟩ => ⟨S2x2048x1024, .f32⟩
  | .hbm, ⟨42, _⟩ => ⟨S1024x1024x1, .f32⟩
  | .hbm, ⟨43, _⟩ => ⟨S1024x1024, .f32⟩
  | .hbm, ⟨44, _⟩ => ⟨S1024x1024, .f32⟩
  | .hbm, ⟨45, _⟩ => ⟨S2x2048x1024, .f32⟩
  | .hbm, ⟨46, _⟩ => ⟨S2x2048x1024, .f32⟩
  | .hbm, ⟨47, _⟩ => ⟨S1024x1024x1, .f32⟩
  | .hbm, ⟨48, _⟩ => ⟨S1024x1024, .f32⟩
  | .hbm, ⟨49, _⟩ => ⟨S1024x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S1024x1024x1, .f32⟩
  | .hbm, ⟨54, _⟩ => ⟨S1024x1024, .f32⟩
  | .hbm, ⟨55, _⟩ => ⟨S1024x1024, .f32⟩
  | .hbm, ⟨56, _⟩ => ⟨S2x2048x1024, .f32⟩
  | .hbm, ⟨57, _⟩ => ⟨S2x2048x1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.Stores.lean ====
module

public import Idealize.ShloMosaic.Lib.Pipeline.FrameBody
public import Idealize.ShloMosaic.Lib.Pipeline.Value
/-! # Whole-buffer stores read back -/

@[expose] public section

namespace Cert.Stores

open Idealize.ShloMosaic

variable {sig : RefSig} {κ : Kind} {sp : Space} {s : Shape} {e : EltTy} {Val : EltTy → Type}

/-- After a store over the whole buffer the buffer reads as what was stored. -/
theorem read_all [∀ e, Nonempty (Val e)] (v : View sig κ sp s e) (f : v.ty.Contents Val) {off : Fin s.rank → Nat} (h : off = fun _ => 0)
    (inb : ∀ a, off a + s.size a ≤ s.size a) (p : s.Idx → Val e) (L : List (View.Piece Val s e)) :
    v.read Val (v.writes Val f (⟨Rect.unit (s := s) off s.size inb, p⟩ :: L)) = p := by
  rw [View.read_writes_eq_canon v f _ (fun y => ⟨_, List.mem_cons_self, View.mem_set_unit_zero h inb y⟩)]
  exact View.canon_cons_unit_zero h inb p L

/-- A load of the whole buffer is its contents. -/
theorem load_whole (v : View sig κ sp s e) (f : v.ty.Contents Val) {off : Fin s.rank → Nat} (h : off = fun _ => 0)
    (inb : ∀ a, off a + s.size a ≤ s.size a) :
    v.readAt Val (Rect.unit (s := s) off s.size inb).toLoadRect f = v.read Val f :=
  (View.readAt_eq_ld v f _).trans (View.ld_unit_zero h inb _)

/-- A load of the whole buffer after a store over it is what was stored. -/
theorem load_all [∀ e, Nonempty (Val e)] (v : View sig κ sp s e) (f : v.ty.Contents Val) {off off' : Fin s.rank → Nat} (h : off = fun _ => 0) (h' : off' = fun _ => 0)
    (inb : ∀ a, off a + s.size a ≤ s.size a) (inb' : ∀ a, off' a + s.size a ≤ s.size a) (p : s.Idx → Val e) (L : List (View.Piece Val s e)) :
    v.readAt Val (Rect.unit (s := s) off s.size inb).toLoadRect (v.writes Val f (⟨Rect.unit (s := s) off' s.size inb', p⟩ :: L)) = p :=
  (load_whole v _ h inb).trans (read_all v f h' inb' p L)

end Cert.Stores

end
-- ==== Proof.KernelIdeal.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
/-! # Call 0: layer norm and the qkv product, block by block -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, read off its array at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A default for the part of input window 0 a transfer would leave unfilled; there is none. -/
def dflt0_0 : (cfg0.win 0).block.Idx → Elt F (cfg0.win 0).elt := fun _ => Classical.choice inferInstance
/-- The block of `x` the first input window holds at point `t`: no block the grid reaches is cut by the array's edge. -/
def X0_0 (c : Dev nD) (t : Fin cfg0.N) : (cfg0.win 0).block.Idx → Elt F (cfg0.win 0).elt :=
  (cfg0.win 0).fill (cfg0.grid.coords t) dflt0_0 (iblk0 V c 0 t)
/-- No transfer of the first input window is cut. -/
theorem xsize0_0 : ∀ t : Fin cfg0.N, ∀ a, (cfg0.win 0).xsize (cfg0.grid.coords t) a = (cfg0.win 0).size a := by decide +kernel
/-- So every index of its block is moved. -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- A transfer fills the whole buffer, whatever it held. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- Input window 0 holds its block when the body runs, fetched at this point or left from an earlier one. -/
theorem before0_0_of {c : Dev nD} (dat : Dat τ (Elt F) Unit ℕ (UR sig nD τ) ℕ cfg0 c) (hA : dat.A 0 = V c (Pipeline.arrRef spec0 0))
    (hafter : ∀ t, dat.after 0 t = X0_0 V c t) (t : Fin cfg0.N) (d) : dat.before 0 t d = X0_0 V c t :=
  (dat.before_in_eq_fetched 0 rfl (fun _ => rfl)
      (fun t t' h => funext fun a => congrArg (fun n => Pipeline.Clip.of n ((cfg0.win 0).size a) (S2x2048x1024.size a)) (congrFun h a))
      (fun t => by rw [hafter]; unfold X0_0; rw [Pipeline.Window.cut_fill]; unfold Dat.blockOf iblk0; rw [hA]; try rfl) t d).trans
    (by unfold Dat.fetched X0_0; rw [fill0_0 t d dflt0_0]; unfold Dat.blockOf iblk0; rw [hA]; try rfl)
/-- Input window 1 holds its block when the body runs, fetched at this point or left from an earlier one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block when the body runs, fetched at this point or left from an earlier one. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 holds its block when the body runs, fetched at this point or left from an earlier one. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 holds its block when the body runs, fetched at this point or left from an earlier one. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x384x1024 := Rect.unit (s := S1x384x1024) ![0, 0, 0] S1x384x1024.size inb_S1x384x1024_S1x384x1024_0_0_0
abbrev r0_1 : Rect S1x1024 := Rect.unit (s := S1x1024) ![0, 0] S1x1024.size inb_S1x1024_S1x1024_0_0
abbrev r0_2 : Rect S3072x1024 := Rect.unit (s := S3072x1024) ![0, 0] S3072x1024.size inb_S3072x1024_S3072x1024_0_0
abbrev r0_3 : Rect S1x3072 := Rect.unit (s := S1x3072) ![0, 0] S1x3072.size inb_S1x3072_S1x3072_0_0
abbrev r0_4 : Rect S1x384x3072 := Rect.unit (s := S1x384x3072) ![0, 0, 0] S1x384x3072.size inb_S1x384x3072_S1x384x3072_0_0_0

/-- What the body stores into window 5, from the input blocks. -/
def out0_5 (x0 : Vec F S1x384x1024 .f32) (x1 : Vec F S1x1024 .f32) (x2 : Vec F S1x1024 .f32) (x3 : Vec F S3072x1024 .bf16) (x4 : Vec F S1x3072 .f32) : Vec F S1x384x3072 .bf16 :=
  View.canon [⟨r0_4, k0_pay1 (k0_pay2 (View.ld x0 r0_0) (View.ld x1 r0_1) (View.ld x2 r0_1) (View.ld x3 r0_2) (View.ld x4 r0_3))⟩]

/-- The one store covers the whole buffer. -/
theorem cover0_5 (p0 : Vec F S1x384x3072 .bf16) (y : S1x384x3072.Idx) :
    ∃ pc ∈ ([⟨r0_4, p0⟩] : List (View.Piece (Elt F) S1x384x3072 .bf16)), y ∈ pc.1.set :=
  View.cover_of_tiled [⟨r0_4, p0⟩] S1x384x3072.size (by rfl) y

set_option maxHeartbeats 1000000 in
/-- The body, given its input buffers, returns them unchanged with the output buffer at the stated value. -/
theorem sound_kernel0 (c : Dev nD) (E : Set ℕ) (i : grid0.Coords) (arg2 : Memref sig .tc .vmem S1x384x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S3072x1024 .bf16) (harg5 : arg5.IsWhole) (arg6 : Memref sig .tc .vmem S1x3072 .f32) (harg6 : arg6.IsWhole) (arg7 : Memref sig .tc .vmem S1x384x3072 .bf16) (harg7 : arg7.IsWhole)
    (x0 : Vec F S1x384x1024 .f32) (x1 : Vec F S1x1024 .f32) (x2 : Vec F S1x1024 .f32) (x3 : Vec F S3072x1024 .bf16) (x4 : Vec F S1x3072 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 x0 x1 x2 x3 x4)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- Proof data of call 0: each input buffer keeps its block, the output buffer ends at the stated value of the blocks. -/
def dat0 (c : Dev nD) : Dat τ (Elt F) Unit ℕ (UR sig nD τ) ℕ cfg0 c where
  A w := V c (Pipeline.arrRef spec0 w)
  after w t := match w with
    | ⟨0, _⟩ => X0_0 V c t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (X0_0 V c t) (iblk0 V c 1 t) (iblk0 V c 2 t) (iblk0 V c 3 t) (iblk0 V c 4 t)
  Φ _ := Pipeline.ΦA spec0 c
  q _ := fullShare
  owed _ := 0

/-- The arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = X0_0 V c t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (X0_0 V c t) (iblk0 V c 1 t) (iblk0 V c 2 t) (iblk0 V c 3 t) (iblk0 V c 4 t) := by dsimp only [dat0]

/-- Every input buffer holds its block when the body runs. -/
theorem before0_0 (c : Dev nD) (t : Fin cfg0.N) (d) : (dat0 V c).before 0 t d = X0_0 V c t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body between the two. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (X0_0 V c t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.KernelIdeal.Heads.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
/-! # The attention of two neighbouring windows, head by head -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Sixty-four columns of a block of qkv rows, from column `o`. -/
theorem slices_head {o : ℕ} (h : o + 64 ≤ 3072) : S128x3072.Slices ![0, o] S128x64 :=
  ⟨rfl, fun a => by fin_cases a; · exact le_refl 128
                    · exact h⟩

/-- Sixty-four columns from column `o`. -/
def cols (q : FVec F S128x3072 .bf16) (o : ℕ) (h : o + 64 ≤ 3072) : FVec F S128x64 .bf16 :=
  extractStridedSlice S128x64 ![0, o] q (slices_head h)

/-- The product of queries and keys of head `h` over the 256 rows of a window, given as two blocks of 128. -/
def scores (qa qb : FVec F S128x3072 .bf16) (h : ℕ) (hh : h < 16) : FVec F S64x64 .f32 :=
  addf (matmul dot_S128x64_S128x64_S64x64_0_0_1_1_n_n none (cols qa (64 * h) (by omega)) (cols qa (1024 + 64 * h) (by omega)) (constant S64x64 .f32 0x00000000#32))
    (matmul dot_S128x64_S128x64_S64x64_0_0_1_1_n_n none (cols qb (64 * h) (by omega)) (cols qb (1024 + 64 * h) (by omega)) (constant S64x64 .f32 0x00000000#32))

/-- The weights of a head from its products: exponentials of the scaled products over their row sum. -/
def weights (s : FVec F S64x64 .f32) : FVec F S64x64 .bf16 :=
  truncf .bf16 (divf (exp (mulf s (broadcast S64x64 (Scalar.ofBits .f32 0x3E000000#32))))
    (broadcastTo S64x64 (shapeCast S64x1
      (multiReduction .add [1] S64 (exp (mulf s (broadcast S64x64 (Scalar.ofBits .f32 0x3E000000#32)))) 0x00000000#32 reduces_S64x64_S64 (.inl rfl) rfl)
      shapeCasts_S64_S64x1) broadcasts_S64x1_S64x64)) bitsLt_bf16_f32

/-- The weights against the values of head `h` of one block of 128 rows. -/
def mixed (p : FVec F S64x64 .bf16) (q : FVec F S128x3072 .bf16) (h : ℕ) (hh : h < 16) : FVec F S64x128 .bf16 :=
  truncf .bf16 (matmul dot_S64x64_S128x64_S64x128_1_1_0_0_n_n none p (cols q (2048 + 64 * h) (by omega)) (constant S64x128 .f32 0x00000000#32)) bitsLt_bf16_f32

/-- The first, or the second, 64 columns of a head's result on one block. -/
def leftHalf (o : FVec F S64x128 .bf16) : FVec F S64x64 .bf16 := extractStridedSlice S64x64 ![0, 0] o slices_S64x128_o0_0_S64x64
def rightHalf (o : FVec F S64x128 .bf16) : FVec F S64x64 .bf16 := extractStridedSlice S64x64 ![0, 64] o slices_S64x128_o0_64_S64x64

/-- The weights of head `h` of a window. -/
def headW (qa qb : FVec F S128x3072 .bf16) (h : Fin 16) : FVec F S64x64 .bf16 := weights (scores qa qb h.1 h.2)

/-- The four quarters of the sixteen heads, each quarter's heads side by side. -/
def pieces (qa qb : FVec F S128x3072 .bf16) : List ((s : Shape) × FVec F s .bf16) :=
  ((List.finRange 16).map fun h => ⟨S64x64, leftHalf (mixed (headW qa qb h) qa h.1 h.2)⟩)
  ++ ((List.finRange 16).map fun h => ⟨S64x64, rightHalf (mixed (headW qa qb h) qa h.1 h.2)⟩)
  ++ ((List.finRange 16).map fun h => ⟨S64x64, leftHalf (mixed (headW qa qb h) qb h.1 h.2)⟩)
  ++ ((List.finRange 16).map fun h => ⟨S64x64, rightHalf (mixed (headW qa qb h) qb h.1 h.2)⟩)

/-- They fill the 4096 columns. -/
theorem pieces_fit (qa qb : FVec F S128x3072 .bf16) : Shape.Concatenates ((pieces qa qb).map (·.1)) S64x4096 1 := by
  have : (pieces qa qb).map (·.1) = List.replicate 64 S64x64 := rfl
  rw [this]; decide +kernel

/-- The 256 rows of one window's attention. -/
def windowRows (qa qb : FVec F S128x3072 .bf16) : FVec F S256x1024 .bf16 :=
  shapeCast S256x1024 (concatenate S64x4096 1 (pieces qa qb) (pieces_fit qa qb)) shapeCasts_S64x4096_S256x1024

/-- The 512 rows of two windows sharing the middle block. -/
def attnRows (q0 q1 q2 : FVec F S128x3072 .bf16) : FVec F S512x1024 .bf16 :=
  concatenate S512x1024 0 [⟨S256x1024, windowRows q0 q1⟩, ⟨S256x1024, windowRows q1 q2⟩] concatenates_S256x1024_S256x1024_S512x1024_d0

end Cert.KernelIdeal.Gen

end
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Heads
/-! # Call 1: windowed attention and the output projection, block by block -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__attn_proj_kernel` (pipeline 1), at the entry contents `V` -/

/-- The block of window `w` at point `t`, read off its array at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block when the body runs, fetched at this point or left from an earlier one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block when the body runs, fetched at this point or left from an earlier one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block when the body runs, fetched at this point or left from an earlier one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block when the body runs, fetched at this point or left from an earlier one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block when the body runs, fetched at this point or left from an earlier one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 holds its block when the body runs, fetched at this point or left from an earlier one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x128x3072 := Rect.unit (s := S1x128x3072) ![0, 0, 0] S1x128x3072.size inb_S1x128x3072_S1x128x3072_0_0_0
abbrev r1_1 : Rect S1x512x1024 := Rect.unit (s := S1x512x1024) ![0, 0, 0] S1x512x1024.size inb_S1x512x1024_S1x512x1024_0_0_0
abbrev r1_2 : Rect S1024x1024 := Rect.unit (s := S1024x1024) ![0, 0] S1024x1024.size inb_S1024x1024_S1024x1024_0_0
abbrev r1_3 : Rect S1x1024 := Rect.unit (s := S1x1024) ![0, 0] S1x1024.size inb_S1x1024_S1x1024_0_0

/-- What the body stores into window 6, from the input blocks. -/
def out1_6 (x0 : Vec F S1x128x3072 .bf16) (x1 : Vec F S1x128x3072 .bf16) (x2 : Vec F S1x128x3072 .bf16) (x3 : Vec F S1x512x1024 .f32) (x4 : Vec F S1024x1024 .bf16) (x5 : Vec F S1x1024 .f32) : Vec F S1x512x1024 .f32 :=
  View.canon [⟨r1_1, k1_pay1 (attnRows (k1_pay2 (View.ld x0 r1_0)) (k1_pay2 (View.ld x1 r1_0)) (k1_pay2 (View.ld x2 r1_0))) (View.ld x3 r1_1) (View.ld x4 r1_2) (View.ld x5 r1_3)⟩]

/-- The one store covers the whole buffer. -/
theorem cover1_6 (p0 : Vec F S1x512x1024 .f32) (y : S1x512x1024.Idx) :
    ∃ pc ∈ ([⟨r1_1, p0⟩] : List (View.Piece (Elt F) S1x512x1024 .f32)), y ∈ pc.1.set :=
  View.cover_of_tiled [⟨r1_1, p0⟩] S1x512x1024.size (by rfl) y

set_option maxHeartbeats 1000000 in
/-- The body, given its input buffers, returns them unchanged with the output buffer at the stated value. -/
theorem sound_kernel1 (c : Dev nD) (E : Set ℕ) (i : grid1.Coords) (arg2 : Memref sig .tc .vmem S1x128x3072 .bf16) (harg2 : arg2.IsWhole) (arg3 : Memref sig .tc .vmem S1x128x3072 .bf16) (harg3 : arg3.IsWhole) (arg4 : Memref sig .tc .vmem S1x128x3072 .bf16) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole)
    (x0 : Vec F S1x128x3072 .bf16) (x1 : Vec F S1x128x3072 .bf16) (x2 : Vec F S1x128x3072 .bf16) (x3 : Vec F S1x512x1024 .f32) (x4 : Vec F S1024x1024 .bf16) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1__attn_proj_kernel i arg2 harg2 arg3 harg3 arg4 harg4 arg5 harg5 arg6 harg6 arg7 harg7 arg8 harg8) K := by
  simp only [cc1__attn_proj_kernel_eq_skeleton]; unfold cc1__attn_proj_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_6 _)).trans ?_
  rfl

/-- Proof data of call 1: each input buffer keeps its block, the output buffer ends at the stated value of the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := Pipeline.shareOf spec1 w
  owed _ := 0

/-- The arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Every input buffer holds its block when the body runs. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body returns at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body between the two. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.KernelIdeal.Region2Values.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
/-! # Call 2: the values one block computes -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off its array at entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body computes from its input blocks -/

abbrev r2_rows : Rect S1x512x1024 := Rect.unit (s := S1x512x1024) ![0, 0, 0] S1x512x1024.size inb_S1x512x1024_S1x512x1024_0_0_0
abbrev r2_prev : Rect S1x8x1024 := Rect.unit (s := S1x8x1024) ![0, 6, 0] S1x2x1024.size inb_S1x8x1024_S1x2x1024_0_6_0
abbrev r2_next : Rect S1x8x1024 := Rect.unit (s := S1x8x1024) ![0, 0, 0] S1x2x1024.size inb_S1x8x1024_S1x2x1024_0_0_0
abbrev r2_row : Rect S1x1024 := Rect.unit (s := S1x1024) ![0, 0] S1x1024.size inb_S1x1024_S1x1024_0_0
abbrev r2_mat : Rect S1024x1024 := Rect.unit (s := S1024x1024) ![0, 0] S1024x1024.size inb_S1024x1024_S1024x1024_0_0
abbrev r2_gate : Rect S8x1024 := Rect.unit (s := S8x1024) ![0, 0] S8x1024.size inb_S8x1024_S8x1024_0_0
abbrev r2_bias : Rect S1x8 := Rect.unit (s := S1x8) ![0, 0] S1x8.size inb_S1x8_S1x8_0_0
abbrev r2_one : Rect S1x1 := Rect.unit (s := S1x1) ![0, 0] S1x1.size inb_S1x1_S1x1_0_0
abbrev r2_wsel : Rect S8x8 := Rect.unit (s := S8x8) ![0, 0] S8x8.size inb_S8x8_S8x8_0_0

/-- The values the body computes at a point: the blocks it holds, one field each. -/
structure Blocks2 (F : FTy → Type) where
  prev : Vec F S1x8x1024 .f32
  rows : Vec F S1x512x1024 .f32
  next : Vec F S1x8x1024 .f32
  g : Vec F S1x1024 .f32
  b : Vec F S1x1024 .f32
  w0 : Vec F S1024x1024 .bf16
  w1 : Vec F S1024x1024 .bf16
  w2 : Vec F S1024x1024 .bf16
  cb : Vec F S1x1024 .f32
  g3 : Vec F S1x1024 .f32
  b3 : Vec F S1x1024 .f32
  gw : Vec F S8x1024 .bf16
  gb : Vec F S1x8 .f32

namespace Blocks2

/-- The normalised rows of the block. -/
def normed (B : Blocks2 F) : FVec F S512x1024 .f32 := k2_pay15 (View.ld B.g r2_row) (View.ld B.b r2_row) (View.ld B.rows r2_rows)
/-- The normalised rows moved down by two, the two rows before the block entering at the top. -/
def above (B : Blocks2 F) (i : grid2.Coords) : FVec F S512x1024 .f32 :=
  k2_pay19 (BitVec.ofNat 32 (i 1).val) (k2_pay13 (View.ld B.g r2_row)) (k2_pay14 (View.ld B.b r2_row)) B.normed
    (k2_pay16 (View.ld B.prev r2_prev)) (k2_pay17 (View.ld B.prev r2_prev)) (k2_pay18 (View.ld B.prev r2_prev)) (Scalar.ofBits .f32 0x44800000#32)
/-- The normalised rows moved up by two, the two rows after the block entering at the bottom. -/
def below (B : Blocks2 F) (i : grid2.Coords) : FVec F S512x1024 .f32 :=
  k2_pay20 (BitVec.ofNat 32 (i 1).val) (k2_pay13 (View.ld B.g r2_row)) (k2_pay14 (View.ld B.b r2_row)) B.normed (View.ld B.next r2_next)
/-- The rows plus their convolution. -/
def conv (B : Blocks2 F) (i : grid2.Coords) : FVec F S512x1024 .f32 :=
  k2_pay21 B.normed (B.above i) (B.below i) (View.ld B.rows r2_rows) (View.ld B.w0 r2_mat) (View.ld B.w1 r2_mat) (View.ld B.w2 r2_mat) (View.ld B.cb r2_row)
/-- The same with the batch axis, as stored. -/
def convOut (B : Blocks2 F) (i : grid2.Coords) : FVec F S1x512x1024 .f32 :=
  k2_pay22 B.normed (B.above i) (B.below i) (View.ld B.rows r2_rows) (View.ld B.w0 r2_mat) (View.ld B.w1 r2_mat) (View.ld B.w2 r2_mat) (View.ld B.cb r2_row)
/-- Row means of `conv`. -/
def mean (B : Blocks2 F) (i : grid2.Coords) : FVec F S512x1 .f32 :=
  k2_pay25 B.normed (B.above i) (B.below i) (View.ld B.rows r2_rows) (View.ld B.w0 r2_mat) (View.ld B.w1 r2_mat) (View.ld B.w2 r2_mat) (View.ld B.cb r2_row)
/-- `conv` centred, squared. -/
def cent (B : Blocks2 F) (i : grid2.Coords) : FVec F S512x1024 .f32 :=
  k2_pay26 B.normed (B.above i) (B.below i) (View.ld B.rows r2_rows) (View.ld B.w0 r2_mat) (View.ld B.w1 r2_mat) (View.ld B.w2 r2_mat) (View.ld B.cb r2_row)
/-- The gate's softmax numerators. -/
def ex (B : Blocks2 F) (i : grid2.Coords) := k2_pay29 (B.conv i) (k2_pay23 (View.ld B.g3 r2_row)) (k2_pay24 (View.ld B.b3 r2_row)) (B.mean i) (B.cent i) (View.ld B.gw r2_gate) (View.ld B.gb r2_bias)
/-- Their row sums. -/
def exSum (B : Blocks2 F) (i : grid2.Coords) := k2_pay30 (B.conv i) (k2_pay23 (View.ld B.g3 r2_row)) (k2_pay24 (View.ld B.b3 r2_row)) (B.mean i) (B.cent i) (View.ld B.gw r2_gate) (View.ld B.gb r2_bias)
/-- The running entropy `a` plus this block's. -/
def entAdd (B : Blocks2 F) (i : grid2.Coords) (a : Vec F S1x1 .f32) : FVec F S1x1 .f32 :=
  k2_pay34 (B.conv i) (k2_pay23 (View.ld B.g3 r2_row)) (k2_pay24 (View.ld B.b3 r2_row)) (B.mean i) (B.cent i) (View.ld B.gw r2_gate) (View.ld B.gb r2_bias) a
/-- The first eight normalised rows for the experts. -/
def z8 (B : Blocks2 F) (i : grid2.Coords) : FVec F S8x1024 .f32 :=
  k2_pay33 (B.conv i) (k2_pay23 (View.ld B.g3 r2_row)) (k2_pay24 (View.ld B.b3 r2_row)) (B.mean i) (B.cent i)
/-- The gate weights of the first eight rows. -/
def wsel (B : Blocks2 F) (i : grid2.Coords) : FVec F S8x8 .f32 :=
  k2_pay31 k2_pay10 (k2_pay11 (B.ex i) (B.exSum i)) (k2_pay12 (B.ex i) (B.exSum i))
/-- The rows (and experts) chosen. -/
def chosen (B : Blocks2 F) (i : grid2.Coords) : IVec S1x8 32 :=
  k2_pay32 (iota .tc S8x1 32 [0] iota_S8x1_d0_w32) (k2_pay8 (B.ex i) (B.exSum i)) (k2_pay9 (B.ex i) (B.exSum i))

end Blocks2

/-- The condition of the last point, as the body computes it. -/
abbrev k2_last (i : grid2.Coords) : BitVec 1 :=
  Scalar.cmpi .ne (Scalar.extui (Scalar.andi (Scalar.cmpi .eq (BitVec.ofNat 32 (i 0).val) 1#32) (Scalar.cmpi .eq (BitVec.ofNat 32 (i 1).val) 3#32)) : BitVec 32) 0#32

/-- The stored values, from what the body has computed when it stores them. -/
theorem Blocks2.z8_of {i : grid2.Coords} (B : Blocks2 F) {a : FVec F S512x1024 .f32} {g b : FVec F S1x1024 .f32} {m : FVec F S512x1 .f32} {q : FVec F S512x1024 .f32}
    (ha : a = B.conv i) (hg : g = k2_pay23 (View.ld B.g3 r2_row)) (hb : b = k2_pay24 (View.ld B.b3 r2_row)) (hm : m = B.mean i)
    (hq : q = B.cent i) :
    k2_pay33 a g b m q = B.z8 i := by subst ha hg hb hm hq; rfl
theorem Blocks2.entAdd_of {i : grid2.Coords} (B : Blocks2 F) {a : FVec F S512x1024 .f32} {g b : FVec F S1x1024 .f32} {m : FVec F S512x1 .f32} {q : FVec F S512x1024 .f32} {w : Vec F S8x1024 .bf16} {v : Vec F S1x8 .f32}
    (ha : a = B.conv i) (hg : g = k2_pay23 (View.ld B.g3 r2_row)) (hb : b = k2_pay24 (View.ld B.b3 r2_row)) (hm : m = B.mean i)
    (hq : q = B.cent i) (hw : w = View.ld B.gw r2_gate) (hv : v = View.ld B.gb r2_bias) {x y : Vec F S1x1 .f32} (hx : x = y) :
    k2_pay34 a g b m q w v x = B.entAdd i y := by subst ha hg hb hm hq hw hv hx; rfl
theorem Blocks2.wsel_of {i : grid2.Coords} (B : Blocks2 F) {a : FVec F S512x1024 .f32} {g b : FVec F S1x1024 .f32} {m : FVec F S512x1 .f32} {q : FVec F S512x1024 .f32} {w : Vec F S8x1024 .bf16} {v : Vec F S1x8 .f32}
    (ha : a = B.conv i) (hg : g = k2_pay23 (View.ld B.g3 r2_row)) (hb : b = k2_pay24 (View.ld B.b3 r2_row)) (hm : m = B.mean i)
    (hq : q = B.cent i) (hw : w = View.ld B.gw r2_gate) (hv : v = View.ld B.gb r2_bias) :
    k2_pay31 k2_pay10 (k2_pay11 (k2_pay29 a g b m q w v) (k2_pay30 a g b m q w v)) (k2_pay12 (k2_pay29 a g b m q w v) (k2_pay30 a g b m q w v)) = B.wsel i := by
  subst ha hg hb hm hq hw hv; rfl
theorem Blocks2.chosen_of {i : grid2.Coords} (B : Blocks2 F) {a : FVec F S512x1024 .f32} {g b : FVec F S1x1024 .f32} {m : FVec F S512x1 .f32} {q : FVec F S512x1024 .f32} {w : Vec F S8x1024 .bf16} {v : Vec F S1x8 .f32}
    (ha : a = B.conv i) (hg : g = k2_pay23 (View.ld B.g3 r2_row)) (hb : b = k2_pay24 (View.ld B.b3 r2_row)) (hm : m = B.mean i)
    (hq : q = B.cent i) (hw : w = View.ld B.gw r2_gate) (hv : v = View.ld B.gb r2_bias) :
    k2_pay32 (iota .tc S8x1 32 [0] iota_S8x1_d0_w32) (k2_pay8 (k2_pay29 a g b m q w v) (k2_pay30 a g b m q w v)) (k2_pay9 (k2_pay29 a g b m q w v) (k2_pay30 a g b m q w v)) = B.chosen i := by
  subst ha hg hb hm hq hw hv; rfl

/-- The zero offset vectors, as the stores spell them. -/
theorem zero2 : (![0, 0] : Fin 2 → Nat) = fun _ => 0 := by decide
theorem zero3 : (![0, 0, 0] : Fin 3 → Nat) = fun _ => 0 := by decide

end Cert.KernelIdeal.Gen

end
-- ==== Proof.KernelIdeal.Region2First.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
public import proofs.«01_k».proof.Proof.KernelIdeal.Region2Values
/-! # Call 2: the body at the first point -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the first point: the input buffers stay, the outputs it stores end at the values stated. -/
theorem sound_kernel2_A (c : Dev nD) (E : Set ℕ) (i : grid2.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x1024 .bf16) (harg13 : arg13.IsWhole) (arg14 : Memref sig .tc .vmem S1x8 .f32) (harg14 : arg14.IsWhole) (arg15 : Memref sig .tc .vmem S1x512x1024 .f32) (harg15 : arg15.IsWhole) (arg16 : Memref sig .tc .vmem S1x1 .f32) (harg16 : arg16.IsWhole) (arg17 : Memref sig .tc .vmem S8x1024 .f32) (harg17 : arg17.IsWhole) (arg18 : Memref sig .tc .vmem S8x8 .f32) (harg18 : arg18.IsWhole) (arg19 : Memref sig .tc .vmem S1x8 .i32) (harg19 : arg19.IsWhole)
    (h1 : k2_cond1 i = 1#1) (h2 : ¬ k2_last i = 1#1) (B : Blocks2 F) (K : PUnit → sProp 𝕄) :
    iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ owns (c : Thread nD τ) arg15 fullShare (B.convOut i) ∗ owns (c : Thread nD τ) arg16 fullShare (B.entAdd i k2_pay2) ∗ owns (c : Thread nD τ) arg17 fullShare (B.z8 i) ∗ owns (c : Thread nD τ) arg18 fullShare (B.wsel i) ∗ owns (c : Thread nD τ) arg19 fullShare (B.chosen i)) -∗ K ⟨⟩))
      ⊢ wp frame (wpE (defs₀ (F := F)) Variants.none c none) E (cc2__conv_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x0, x1, x2, x3, x4, x5, x6, x7, x8, x9, x10, x11, x12⟩ := B
  dsimp only
  simp only [cc2__conv_gate_kernel_eq_skeleton]; unfold cc2__conv_gate_kernel_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact (Stores.read_all _ _ zero3 _ _ _).trans rfl
  isplitl [H14]
  · iexists _; isplitr
    swap; · iexact H14
    ipureintro
    refine (Stores.read_all _ _ zero2 _ _ _).trans ?_
    unfold sound_kernel2_A.sl.r_17 sound_kernel2_A.sl.v160
    refine Blocks2.entAdd_of _ ?_ ?_ ?_ ?_ ?_ ?_ ?_ (Stores.load_all (Val := Elt F) _ _ zero2 zero2 _ _ _ _) <;> rfl
  isplitl [H15]
  · iexists _; isplitr
    swap; · iexact H15
    ipureintro
    refine (Stores.read_all _ _ zero2 _ _ _).trans ?_
    refine Blocks2.z8_of _ ?_ ?_ ?_ ?_ ?_ <;> rfl
  isplitl [H16]
  · iexists _; isplitr
    swap; · iexact H16
    ipureintro
    refine (Stores.read_all _ _ zero2 _ _ _).trans ?_
    unfold sound_kernel2_A.sl.r_15 sound_kernel2_A.sl.r_16
    refine Blocks2.wsel_of _ ?_ ?_ ?_ ?_ ?_ ?_ ?_ <;> rfl
  iexists _; isplitr
  swap; · iexact H17
  ipureintro
  refine (Stores.read_all _ _ zero2 _ _ _).trans ?_
  unfold sound_kernel2_A.sl.r_13 sound_kernel2_A.sl.r_14 sound_kernel2_A.sl.v196
  refine Blocks2.chosen_of _ ?_ ?_ ?_ ?_ ?_ ?_ ?_ <;> rfl

end Cert.KernelIdeal.Gen

end
-- ==== Proof.KernelIdeal.Region2Middle.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
public import proofs.«01_k».proof.Proof.KernelIdeal.Region2Values
/-! # Call 2: the body at the middle point -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a middle point: the input buffers stay, the outputs it stores end at the values stated. -/
theorem sound_kernel2_B (c : Dev nD) (E : Set ℕ) (i : grid2.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x1024 .bf16) (harg13 : arg13.IsWhole) (arg14 : Memref sig .tc .vmem S1x8 .f32) (harg14 : arg14.IsWhole) (arg15 : Memref sig .tc .vmem S1x512x1024 .f32) (harg15 : arg15.IsWhole) (arg16 : Memref sig .tc .vmem S1x1 .f32) (harg16 : arg16.IsWhole) (arg17 : Memref sig .tc .vmem S8x1024 .f32) (harg17 : arg17.IsWhole) (arg18 : Memref sig .tc .vmem S8x8 .f32) (harg18 : arg18.IsWhole) (arg19 : Memref sig .tc .vmem S1x8 .i32) (harg19 : arg19.IsWhole)
    (h1 : ¬ k2_cond1 i = 1#1) (h2 : ¬ k2_last i = 1#1) (B : Blocks2 F) (a : Vec F S1x1 .f32) (K : PUnit → sProp 𝕄) :
    iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ (∃ d, owns (c : Thread nD τ) arg15 fullShare d) ∗ owns (c : Thread nD τ) arg16 fullShare a
        ∗ (iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ owns (c : Thread nD τ) arg15 fullShare (B.convOut i) ∗ owns (c : Thread nD τ) arg16 fullShare (B.entAdd i a)) -∗ K ⟨⟩))
      ⊢ wp frame (wpE (defs₀ (F := F)) Variants.none c none) E (cc2__conv_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x0, x1, x2, x3, x4, x5, x6, x7, x8, x9, x10, x11, x12⟩ := B
  dsimp only
  simp only [cc2__conv_gate_kernel_eq_skeleton]; unfold cc2__conv_gate_kernel_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  subst hf0 hf1 hf2 hf3 hf4 hf5 hf6 hf7 hf8 hf9 hf10 hf11 hf12 hf14
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact (Stores.read_all _ _ zero3 _ _ _).trans rfl
  iexists _; isplitr
  swap; · iexact H14
  ipureintro
  refine (Stores.read_all _ _ zero2 _ _ _).trans ?_
  refine Eq.trans ?_ (congrArg (Blocks2.entAdd _ i) (Stores.load_whole arg16.view f14 zero2 inb_S1x1_S1x1_0_0))
  rfl

end Cert.KernelIdeal.Gen

end
-- ==== Proof.KernelIdeal.Region2Last.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
public import proofs.«01_k».proof.Proof.KernelIdeal.Region2Values
/-! # Call 2: the body at the last point -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the last point: the input buffers stay, the outputs it stores end at the values stated. -/
theorem sound_kernel2_C (c : Dev nD) (E : Set ℕ) (i : grid2.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x1024 .bf16) (harg13 : arg13.IsWhole) (arg14 : Memref sig .tc .vmem S1x8 .f32) (harg14 : arg14.IsWhole) (arg15 : Memref sig .tc .vmem S1x512x1024 .f32) (harg15 : arg15.IsWhole) (arg16 : Memref sig .tc .vmem S1x1 .f32) (harg16 : arg16.IsWhole) (arg17 : Memref sig .tc .vmem S8x1024 .f32) (harg17 : arg17.IsWhole) (arg18 : Memref sig .tc .vmem S8x8 .f32) (harg18 : arg18.IsWhole) (arg19 : Memref sig .tc .vmem S1x8 .i32) (harg19 : arg19.IsWhole)
    (h1 : ¬ k2_cond1 i = 1#1) (h2 : k2_last i = 1#1) (B : Blocks2 F) (a : Vec F S1x1 .f32) (K : PUnit → sProp 𝕄) :
    iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ (∃ d, owns (c : Thread nD τ) arg15 fullShare d) ∗ owns (c : Thread nD τ) arg16 fullShare a
        ∗ (iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ owns (c : Thread nD τ) arg15 fullShare (B.convOut i) ∗ owns (c : Thread nD τ) arg16 fullShare (k2_pay1 (B.entAdd i a))) -∗ K ⟨⟩))
      ⊢ wp frame (wpE (defs₀ (F := F)) Variants.none c none) E (cc2__conv_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x0, x1, x2, x3, x4, x5, x6, x7, x8, x9, x10, x11, x12⟩ := B
  dsimp only
  simp only [cc2__conv_gate_kernel_eq_skeleton]; unfold cc2__conv_gate_kernel_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  subst hf0 hf1 hf2 hf3 hf4 hf5 hf6 hf7 hf8 hf9 hf10 hf11 hf12 hf14
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact (Stores.read_all _ _ zero3 _ _ _).trans rfl
  iexists _; isplitr
  swap; · iexact H14
  ipureintro
  refine (Stores.read_all _ _ zero2 _ _ _).trans (congrArg k2_pay1 ?_)
  refine (Stores.load_all _ _ zero2 zero2 _ _ _ _).trans ?_
  refine Eq.trans ?_ (congrArg (Blocks2.entAdd _ i) (Stores.load_whole arg16.view f14 zero2 inb_S1x1_S1x1_0_0))
  rfl

end Cert.KernelIdeal.Gen

end
-- ==== Proof.KernelIdeal.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
public import proofs.«01_k».proof.Proof.KernelIdeal.Region2First
public import proofs.«01_k».proof.Proof.KernelIdeal.Region2Middle
public import proofs.«01_k».proof.Proof.KernelIdeal.Region2Last
/-! # Call 2: convolution and gate, block by block -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The blocks the body holds at point `t`. -/
def blocks2 (c : Dev nD) (t : Fin cfg2.N) : Blocks2 F :=
  ⟨iblk2 V c 0 t, iblk2 V c 1 t, iblk2 V c 2 t, iblk2 V c 3 t, iblk2 V c 4 t, iblk2 V c 5 t, iblk2 V c 6 t, iblk2 V c 7 t, iblk2 V c 8 t, iblk2 V c 9 t, iblk2 V c 10 t, iblk2 V c 11 t, iblk2 V c 12 t⟩

/-- The running entropy after point `n`: started at zero, one block added at each point, scaled at the last. -/
def aux2 (c : Dev nD) : Nat → Vec F S1x1 .f32
  | 0 => (blocks2 V c t2_0).entAdd (grid2.coords t2_0) k2_pay2
  | n + 1 =>
    if h : n + 1 < grid2.N then
      if n + 1 = 7 then k2_pay1 ((blocks2 V c ⟨n + 1, h⟩).entAdd (grid2.coords ⟨n + 1, h⟩) (aux2 c n))
      else (blocks2 V c ⟨n + 1, h⟩).entAdd (grid2.coords ⟨n + 1, h⟩) (aux2 c n)
    else aux2 c n

/-- Proof data of call 2: inputs keep their blocks; the convolved rows are stored at every point, the entropy runs on, and
    the experts' rows, weights and choice are those of the first point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => (blocks2 V c t).convOut (grid2.coords t)
    | ⟨14, _⟩ => aux2 V c t.val
    | ⟨15, _⟩ => (blocks2 V c t2_0).z8 (grid2.coords t2_0)
    | ⟨16, _⟩ => (blocks2 V c t2_0).wsel (grid2.coords t2_0)
    | ⟨17, _⟩ => (blocks2 V c t2_0).chosen (grid2.coords t2_0)
    | ⟨_ + 18, h⟩ => absurd h (Nat.not_lt.2 (Nat.le_add_left _ _))
  Φ _ := Pipeline.ΦA spec2 c
  q w := Pipeline.shareOf spec2 w
  owed _ := 0

/-- The arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = (blocks2 V c t).convOut (grid2.coords t) := by dsimp only [dat2]
theorem after2_14 (c : Dev nD) (t : Fin cfg2.N) : (dat2 V c).after 14 t = aux2 V c t.val := by dsimp only [dat2]
theorem after2_15 (c : Dev nD) (t : Fin cfg2.N) : (dat2 V c).after 15 t = (blocks2 V c t2_0).z8 (grid2.coords t2_0) := by dsimp only [dat2]
theorem after2_16 (c : Dev nD) (t : Fin cfg2.N) : (dat2 V c).after 16 t = (blocks2 V c t2_0).wsel (grid2.coords t2_0) := by dsimp only [dat2]
theorem after2_17 (c : Dev nD) (t : Fin cfg2.N) : (dat2 V c).after 17 t = (blocks2 V c t2_0).chosen (grid2.coords t2_0) := by dsimp only [dat2]

/-- An input window holds its block when the body runs, fetched at this point or left from an earlier one. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl) (fun t => by rw [after2_8]; unfold Dat.blockOf iblk2; rw [A_eq2]; try rfl) t d).trans
    (by unfold Dat.fetched Dat.blockOf iblk2; rw [A_eq2]; try rfl)
theorem before2_9 (c : Dev nD) (t : Fin cfg2.N) (d) : (dat2 V c).before 9 t d = iblk2 V c 9 t :=
  ((dat2 V c).before_in_eq_fetched 9 rfl (fun _ => rfl) (fun _ _ _ => rfl) (fun t => by rw [after2_9]; unfold Dat.blockOf iblk2; rw [A_eq2]; try rfl) t d).trans
    (by unfold Dat.fetched Dat.blockOf iblk2; rw [A_eq2]; try rfl)
theorem before2_10 (c : Dev nD) (t : Fin cfg2.N) (d) : (dat2 V c).before 10 t d = iblk2 V c 10 t :=
  ((dat2 V c).before_in_eq_fetched 10 rfl (fun _ => rfl) (fun _ _ _ => rfl) (fun t => by rw [after2_10]; unfold Dat.blockOf iblk2; rw [A_eq2]; try rfl) t d).trans
    (by unfold Dat.fetched Dat.blockOf iblk2; rw [A_eq2]; try rfl)
theorem before2_11 (c : Dev nD) (t : Fin cfg2.N) (d) : (dat2 V c).before 11 t d = iblk2 V c 11 t :=
  ((dat2 V c).before_in_eq_fetched 11 rfl (fun _ => rfl) (fun _ _ _ => rfl) (fun t => by rw [after2_11]; unfold Dat.blockOf iblk2; rw [A_eq2]; try rfl) t d).trans
    (by unfold Dat.fetched Dat.blockOf iblk2; rw [A_eq2]; try rfl)
theorem before2_12 (c : Dev nD) (t : Fin cfg2.N) (d) : (dat2 V c).before 12 t d = iblk2 V c 12 t :=
  ((dat2 V c).before_in_eq_fetched 12 rfl (fun _ => rfl) (fun _ _ _ => rfl) (fun t => by rw [after2_12]; unfold Dat.blockOf iblk2; rw [A_eq2]; try rfl) t d).trans
    (by unfold Dat.fetched Dat.blockOf iblk2; rw [A_eq2]; try rfl)

/-! ## The points -/

/-- The body's first condition holds at the first point only. -/
theorem first2 : ∀ t : Fin grid2.N, k2_cond1 (grid2.coords t) = 1#1 ↔ t.val = 0 := by decide +kernel
/-- Its last condition holds at the last point only. -/
theorem last2 : ∀ t : Fin grid2.N, k2_last (grid2.coords t) = 1#1 ↔ t.val = 7 := by decide +kernel

/-- The running entropy, when the body runs after the first point, is what the point before left. -/
theorem before2_14 (c : Dev nD) (t : Fin cfg2.N) (h : t.val ≠ 0) (d) : (dat2 V c).before 14 t d = aux2 V c (t.val - 1) := by
  have hN : t.val < 8 := lt_of_lt_of_eq t.isLt N_2
  rw [Dat.before_of_pos _ 14 t h rfl]
  rw [if_neg (fun e => by have := (flush2_14 _).1 e; dsimp only at this; omega)]
  unfold Dat.left
  exact (after2_14 V c ⟨t.val - 1, _⟩)

/-- The window is live at the first point. -/
theorem live2_15 : cfg2.idle 15 (cfg2.grid.coords t2_0) = false := by decide +kernel
/-- What the first point stored is still there at every later one. -/
theorem before2_15 (c : Dev nD) (d) : ∀ (n : Nat) (hn : n + 1 < cfg2.N), (dat2 V c).before 15 ⟨n + 1, hn⟩ d = (blocks2 V c t2_0).z8 (grid2.coords t2_0)
  | n, hn => by
    have hN : n + 1 < 8 := lt_of_lt_of_eq hn N_2
    rw [Dat.before_of_pos _ 15 _ (Nat.succ_ne_zero n) rfl, if_neg (fun e => by have := (flush2_15 _).1 e; dsimp only at this; omega)]
    unfold Dat.left
    cases n with
    | zero =>
      rw [show cfg2.idle 15 (cfg2.grid.coords ⟨0 + 1 - 1, Nat.lt_of_le_of_lt (Nat.sub_le _ _) hn⟩) = false from live2_15]
      exact (after2_15 V c _)
    | succ n =>
      rw [show cfg2.idle 15 (cfg2.grid.coords ⟨n + 1 + 1 - 1, Nat.lt_of_le_of_lt (Nat.sub_le _ _) hn⟩) = true from by
        show (!(k2_cond1 (grid2.coords ⟨n + 1, _⟩) == 1#1)) = true
        rw [Bool.not_eq_true', beq_eq_false_iff_ne]
        exact fun e => Nat.succ_ne_zero n ((first2 _).1 e)]
      exact before2_15 c d n (by omega)

/-- The window is live at the first point. -/
theorem live2_16 : cfg2.idle 16 (cfg2.grid.coords t2_0) = false := by decide +kernel
/-- What the first point stored is still there at every later one. -/
theorem before2_16 (c : Dev nD) (d) : ∀ (n : Nat) (hn : n + 1 < cfg2.N), (dat2 V c).before 16 ⟨n + 1, hn⟩ d = (blocks2 V c t2_0).wsel (grid2.coords t2_0)
  | n, hn => by
    have hN : n + 1 < 8 := lt_of_lt_of_eq hn N_2
    rw [Dat.before_of_pos _ 16 _ (Nat.succ_ne_zero n) rfl, if_neg (fun e => by have := (flush2_16 _).1 e; dsimp only at this; omega)]
    unfold Dat.left
    cases n with
    | zero =>
      rw [show cfg2.idle 16 (cfg2.grid.coords ⟨0 + 1 - 1, Nat.lt_of_le_of_lt (Nat.sub_le _ _) hn⟩) = false from live2_16]
      exact (after2_16 V c _)
    | succ n =>
      rw [show cfg2.idle 16 (cfg2.grid.coords ⟨n + 1 + 1 - 1, Nat.lt_of_le_of_lt (Nat.sub_le _ _) hn⟩) = true from by
        show (!(k2_cond1 (grid2.coords ⟨n + 1, _⟩) == 1#1)) = true
        rw [Bool.not_eq_true', beq_eq_false_iff_ne]
        exact fun e => Nat.succ_ne_zero n ((first2 _).1 e)]
      exact before2_16 c d n (by omega)

/-- The window is live at the first point. -/
theorem live2_17 : cfg2.idle 17 (cfg2.grid.coords t2_0) = false := by decide +kernel
/-- What the first point stored is still there at every later one. -/
theorem before2_17 (c : Dev nD) (d) : ∀ (n : Nat) (hn : n + 1 < cfg2.N), (dat2 V c).before 17 ⟨n + 1, hn⟩ d = (blocks2 V c t2_0).chosen (grid2.coords t2_0)
  | n, hn => by
    have hN : n + 1 < 8 := lt_of_lt_of_eq hn N_2
    rw [Dat.before_of_pos _ 17 _ (Nat.succ_ne_zero n) rfl, if_neg (fun e => by have := (flush2_17 _).1 e; dsimp only at this; omega)]
    unfold Dat.left
    cases n with
    | zero =>
      rw [show cfg2.idle 17 (cfg2.grid.coords ⟨0 + 1 - 1, Nat.lt_of_le_of_lt (Nat.sub_le _ _) hn⟩) = false from live2_17]
      exact (after2_17 V c _)
    | succ n =>
      rw [show cfg2.idle 17 (cfg2.grid.coords ⟨n + 1 + 1 - 1, Nat.lt_of_le_of_lt (Nat.sub_le _ _) hn⟩) = true from by
        show (!(k2_cond1 (grid2.coords ⟨n + 1, _⟩) == 1#1)) = true
        rw [Bool.not_eq_true', beq_eq_false_iff_ne]
        exact fun e => Nat.succ_ne_zero n ((first2 _).1 e)]
      exact before2_17 c d n (by omega)

/-! ## The body obligation -/

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ (dat2 V c).leavesExact 15 t
    ∗ (dat2 V c).leavesExact 16 t
    ∗ (dat2 V c).leavesExact 17 t)

set_option maxHeartbeats 4000000 in
/-- The body between the two. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  have hN : t.val < 8 := lt_of_lt_of_eq t.isLt N_2
  by_cases h0 : t.val = 0
  · obtain rfl : t = t2_0 := Fin.ext h0
    rw [show (dat2 V c).leavesExact 15 t2_0 = owns (c : Thread nD τ) (st2_15 t2_0) fullShare ((dat2 V c).after 15 t2_0) from by
      unfold Dat.leavesExact; rw [show cfg2.idle 15 (cfg2.grid.coords t2_0) = false from live2_15]; try rfl, after2_15]
    rw [show (dat2 V c).leavesExact 16 t2_0 = owns (c : Thread nD τ) (st2_16 t2_0) fullShare ((dat2 V c).after 16 t2_0) from by
      unfold Dat.leavesExact; rw [show cfg2.idle 16 (cfg2.grid.coords t2_0) = false from live2_16]; try rfl, after2_16]
    rw [show (dat2 V c).leavesExact 17 t2_0 = owns (c : Thread nD τ) (st2_17 t2_0) fullShare ((dat2 V c).after 17 t2_0) from by
      unfold Dat.leavesExact; rw [show cfg2.idle 17 (cfg2.grid.coords t2_0) = false from live2_17]; try rfl, after2_17]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (sound_kernel2_A c Set.univ (grid2.coords t2_0) _ _ _ _ _ _ _ _ _ _ _ _ _ _ _ _ _ _ _ _ _ _ _ _ _ _ _ _ _ _ _ _ _ _ _ _ ((first2 t2_0).2 rfl) (fun e => absurd ((last2 t2_0).1 e) (by decide)) (blocks2 V c t2_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · have hidle : k2_cond1 (grid2.coords t) ≠ 1#1 := fun e => h0 ((first2 t).1 e)
    obtain ⟨n, hn, rfl⟩ : ∃ n, ∃ hn : n + 1 < cfg2.N, t = ⟨n + 1, hn⟩ :=
      ⟨t.val - 1, by have := t.isLt; omega, Fin.ext (by show t.val = t.val - 1 + 1; omega)⟩
    have hi15 : cfg2.idle 15 (cfg2.grid.coords ⟨n + 1, hn⟩) = true := by
      show (!(k2_cond1 (grid2.coords ⟨n + 1, hn⟩) == 1#1)) = true
      rw [Bool.not_eq_true', beq_eq_false_iff_ne]; exact hidle
    have hi16 : cfg2.idle 16 (cfg2.grid.coords ⟨n + 1, hn⟩) = true := by
      show (!(k2_cond1 (grid2.coords ⟨n + 1, hn⟩) == 1#1)) = true
      rw [Bool.not_eq_true', beq_eq_false_iff_ne]; exact hidle
    have hi17 : cfg2.idle 17 (cfg2.grid.coords ⟨n + 1, hn⟩) = true := by
      show (!(k2_cond1 (grid2.coords ⟨n + 1, hn⟩) == 1#1)) = true
      rw [Bool.not_eq_true', beq_eq_false_iff_ne]; exact hidle
    by_cases h7 : n + 1 = 7
    · rw [show (dat2 V c).leavesExact 15 ⟨n + 1, hn⟩ = owns (c : Thread nD τ) (st2_15 ⟨n + 1, hn⟩) fullShare ((dat2 V c).after 15 ⟨n + 1, hn⟩) from by
        unfold Dat.leavesExact; rw [hi15, (flush2_15 ⟨n + 1, hn⟩).2 (by show (n + 1) % 8 = 7; omega)]; try rfl, after2_15]
      rw [show (dat2 V c).leavesExact 16 ⟨n + 1, hn⟩ = owns (c : Thread nD τ) (st2_16 ⟨n + 1, hn⟩) fullShare ((dat2 V c).after 16 ⟨n + 1, hn⟩) from by
        unfold Dat.leavesExact; rw [hi16, (flush2_16 ⟨n + 1, hn⟩).2 (by show (n + 1) % 8 = 7; omega)]; try rfl, after2_16]
      rw [show (dat2 V c).leavesExact 17 ⟨n + 1, hn⟩ = owns (c : Thread nD τ) (st2_17 ⟨n + 1, hn⟩) fullShare ((dat2 V c).after 17 ⟨n + 1, hn⟩) from by
        unfold Dat.leavesExact; rw [hi17, (flush2_17 ⟨n + 1, hn⟩).2 (by show (n + 1) % 8 = 7; omega)]; try rfl, after2_17]
      have haux : aux2 V c (n + 1) = k2_pay1 ((blocks2 V c ⟨n + 1, hn⟩).entAdd (grid2.coords ⟨n + 1, hn⟩) (aux2 V c n)) := by
        rw [aux2, dif_pos hn, if_pos h7]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (sound_kernel2_C c Set.univ (grid2.coords ⟨n + 1, hn⟩) _ _ _ _ _ _ _ _ _ _ _ _ _ _ _ _ _ _ _ _ _ _ _ _ _ _ _ _ _ _ _ _ _ _ _ _ (fun e => h0 ((first2 ⟨n + 1, hn⟩).1 e)) ((last2 ⟨n + 1, hn⟩).2 h7) (blocks2 V c ⟨n + 1, hn⟩) (aux2 V c (n)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · rw [show aux2 V c (n) = (dat2 V c).before 14 ⟨n + 1, hn⟩ d14 from (before2_14 V c ⟨n + 1, hn⟩ h0 d14).symm]; iexact H14
      iintro ⟨H0, H1, H2, H3, H4, H5, H6, H7, H8, H9, H10, H11, H12, H13, H14⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      rw [← haux]
      isplitl [H14]; · iexact H14
      isplitl [H15]; · rw [← before2_15 V c d15 n hn]; iexact H15
      isplitl [H16]; · rw [← before2_16 V c d16 n hn]; iexact H16
      rw [← before2_17 V c d17 n hn]; iexact H17
    · rw [show (dat2 V c).leavesExact 15 ⟨n + 1, hn⟩ = iprop(∃ d, owns (c : Thread nD τ) (st2_15 ⟨n + 1, hn⟩) fullShare ((dat2 V c).before 15 ⟨n + 1, hn⟩ d)) from by
        unfold Dat.leavesExact; rw [hi15, show (cfg2.win 15).flush ⟨n + 1, hn⟩ = false from Bool.eq_false_iff.2 fun e => by
          have := (flush2_15 ⟨n + 1, hn⟩).1 e; dsimp only at this hN; omega]; try rfl]
      rw [show (dat2 V c).leavesExact 16 ⟨n + 1, hn⟩ = iprop(∃ d, owns (c : Thread nD τ) (st2_16 ⟨n + 1, hn⟩) fullShare ((dat2 V c).before 16 ⟨n + 1, hn⟩ d)) from by
        unfold Dat.leavesExact; rw [hi16, show (cfg2.win 16).flush ⟨n + 1, hn⟩ = false from Bool.eq_false_iff.2 fun e => by
          have := (flush2_16 ⟨n + 1, hn⟩).1 e; dsimp only at this hN; omega]; try rfl]
      rw [show (dat2 V c).leavesExact 17 ⟨n + 1, hn⟩ = iprop(∃ d, owns (c : Thread nD τ) (st2_17 ⟨n + 1, hn⟩) fullShare ((dat2 V c).before 17 ⟨n + 1, hn⟩ d)) from by
        unfold Dat.leavesExact; rw [hi17, show (cfg2.win 17).flush ⟨n + 1, hn⟩ = false from Bool.eq_false_iff.2 fun e => by
          have := (flush2_17 ⟨n + 1, hn⟩).1 e; dsimp only at this hN; omega]; try rfl]
      have haux : aux2 V c (n + 1) = (blocks2 V c ⟨n + 1, hn⟩).entAdd (grid2.coords ⟨n + 1, hn⟩) (aux2 V c n) := by
        rw [aux2, dif_pos hn, if_neg h7]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (sound_kernel2_B c Set.univ (grid2.coords ⟨n + 1, hn⟩) _ _ _ _ _ _ _ _ _ _ _ _ _ _ _ _ _ _ _ _ _ _ _ _ _ _ _ _ _ _ _ _ _ _ _ _ (fun e => h0 ((first2 ⟨n + 1, hn⟩).1 e)) (fun e => h7 ((last2 ⟨n + 1, hn⟩).1 e)) (blocks2 V c ⟨n + 1, hn⟩) (aux2 V c (n)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · rw [show aux2 V c (n) = (dat2 V c).before 14 ⟨n + 1, hn⟩ d14 from (before2_14 V c ⟨n + 1, hn⟩ h0 d14).symm]; iexact H14
      iintro ⟨H0, H1, H2, H3, H4, H5, H6, H7, H8, H9, H10, H11, H12, H13, H14⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      rw [← haux]
      isplitl [H14]; · iexact H14
      isplitl [H15]; · iexists d15; iexact H15
      isplitl [H16]; · iexists d16; iexact H16
      iexists d17; iexact H17

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The body obligation at every grid point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Gen

end
-- ==== Proof.KernelIdeal.Region3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
/-! # Call 3: the chosen experts on the first eight rows -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (a : (pcfg3 (F := F)).Adm)

/-- The block of window `w` at point `t`, read off its array at entry. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- Input window 0 holds its block when the body runs, fetched at this point or left from an earlier one. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block when the body runs, fetched at this point or left from an earlier one. -/
theorem before3_1_of {c : Dev nD} (dat : Dat τ (Elt F) Unit ℕ (UR sig nD τ) ℕ (cfg3 a) c) (hA : dat.A 1 = V c (Pipeline.arrRef spec3 1))
    (hafter : ∀ t, dat.after 1 t = iblk3 V a c 1 t) (t : Fin (cfg3 a).N) (d) : dat.before 1 t d = iblk3 V a c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 holds its block when the body runs, fetched at this point or left from an earlier one. -/
theorem before3_2_of {c : Dev nD} (dat : Dat τ (Elt F) Unit ℕ (UR sig nD τ) ℕ (cfg3 a) c) (hA : dat.A 2 = V c (Pipeline.arrRef spec3 2))
    (hafter : ∀ t, dat.after 2 t = iblk3 V a c 2 t) (t : Fin (cfg3 a).N) (d) : dat.before 2 t d = iblk3 V a c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 holds its block when the body runs, fetched at this point or left from an earlier one. -/
theorem before3_3_of {c : Dev nD} (dat : Dat τ (Elt F) Unit ℕ (UR sig nD τ) ℕ (cfg3 a) c) (hA : dat.A 3 = V c (Pipeline.arrRef spec3 3))
    (hafter : ∀ t, dat.after 3 t = iblk3 V a c 3 t) (t : Fin (cfg3 a).N) (d) : dat.before 3 t d = iblk3 V a c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 holds its block when the body runs, fetched at this point or left from an earlier one. -/
theorem before3_4_of {c : Dev nD} (dat : Dat τ (Elt F) Unit ℕ (UR sig nD τ) ℕ (cfg3 a) c) (hA : dat.A 4 = V c (Pipeline.arrRef spec3 4))
    (hafter : ∀ t, dat.after 4 t = iblk3 V a c 4 t) (t : Fin (cfg3 a).N) (d) : dat.before 4 t d = iblk3 V a c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The first branch runs at the first point only, the second at the last only. -/
theorem cond3_1 : ∀ t : Fin grid3.N, k3_cond1 (grid3.coords t) = 1#1 ↔ t.val = 0 := by decide +kernel
theorem live3_5 : ∀ t : Fin grid3.N, idle3 5 (grid3.coords t) = false := by decide +kernel
theorem cond3_2 : ∀ t : Fin grid3.N, k3_cond2 (grid3.coords t) = 1#1 ↔ t.val = 1 := by decide +kernel

/-- Zero offsets, two and three axes. -/
theorem zero3_2 : (![0, 0] : Fin 2 → Nat) = fun _ => 0 := by funext i; fin_cases i <;> rfl
theorem zero3_3 : (![0, 0, 0] : Fin 3 → Nat) = fun _ => 0 := by funext i; fin_cases i <;> rfl

set_option maxHeartbeats 1000000 in
/-- The body at the first point: the rows `x2` plus the first expert's share. -/
theorem sound_kernel3_A (c : Dev nD) (E : Set ℕ) (i : grid3.Coords) (arg1 : Memref sig .tc .smem S2 .i32) (harg1 : arg1.IsWhole) (arg2 : Memref sig .tc .vmem S8x1024 .f32) (harg2 : arg2.IsWhole) (arg3 : Memref sig .tc .vmem S8x8 .f32) (harg3 : arg3.IsWhole) (arg4 : Memref sig .tc .vmem S1x8x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x8x1024 .f32) (harg7 : arg7.IsWhole)
    (hc1 : k3_cond1 i = 1#1) (hc2 : ¬ k3_cond2 i = 1#1) (x0 : Vec F S8x1024 .f32) (x1 : Vec F S8x8 .f32) (x2 : Vec F S1x8x1024 .f32) (x3 : Vec F S1x1024x1024 .f32) (x4 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k3_pay2 i x0 x3 x4 x1 x2)) -∗ K ⟨⟩))
      ⊢ wp frame (wpE (defs₀ (F := F)) Variants.none c none) E (cc3__expert_kernel i arg1 harg1 arg2 harg2 arg3 harg3 arg4 harg4 arg5 harg5 arg6 harg6 arg7 harg7) K := by
  simp only [cc3__expert_kernel_eq_skeleton]; unfold cc3__expert_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (Stores.read_all (Val := Elt F) _ _ zero3_3 _ _ _).trans ?_
  simp only [Stores.load_whole (Val := Elt F) arg2.view _ zero3_2, Stores.load_whole (Val := Elt F) arg3.view _ zero3_2, Stores.load_whole (Val := Elt F) arg4.view _ zero3_3,
    Stores.load_whole (Val := Elt F) arg5.view _ zero3_3, Stores.load_whole (Val := Elt F) arg6.view _ zero3_3, Stores.load_whole (Val := Elt F) arg7.view _ zero3_3]

set_option maxHeartbeats 1000000 in
/-- The body at the last point: the rows held plus the second expert's share. -/
theorem sound_kernel3_B (c : Dev nD) (E : Set ℕ) (i : grid3.Coords) (arg1 : Memref sig .tc .smem S2 .i32) (harg1 : arg1.IsWhole) (arg2 : Memref sig .tc .vmem S8x1024 .f32) (harg2 : arg2.IsWhole) (arg3 : Memref sig .tc .vmem S8x8 .f32) (harg3 : arg3.IsWhole) (arg4 : Memref sig .tc .vmem S1x8x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x8x1024 .f32) (harg7 : arg7.IsWhole)
    (hc1 : ¬ k3_cond1 i = 1#1) (hc2 : k3_cond2 i = 1#1) (x0 : Vec F S8x1024 .f32) (x1 : Vec F S8x8 .f32) (x2 : Vec F S1x8x1024 .f32) (x3 : Vec F S1x1024x1024 .f32) (x4 : Vec F S1x1x1024 .f32) (x5 : Vec F S1x8x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k3_pay3 i x0 x3 x4 x1 x5)) -∗ K ⟨⟩))
      ⊢ wp frame (wpE (defs₀ (F := F)) Variants.none c none) E (cc3__expert_kernel i arg1 harg1 arg2 harg2 arg3 harg3 arg4 harg4 arg5 harg5 arg6 harg6 arg7 harg7) K := by
  simp only [cc3__expert_kernel_eq_skeleton]; unfold cc3__expert_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (Stores.read_all (Val := Elt F) _ _ zero3_3 _ _ _).trans ?_
  simp only [Stores.load_whole (Val := Elt F) arg2.view _ zero3_2, Stores.load_whole (Val := Elt F) arg3.view _ zero3_2, Stores.load_whole (Val := Elt F) arg4.view _ zero3_3,
    Stores.load_whole (Val := Elt F) arg5.view _ zero3_3, Stores.load_whole (Val := Elt F) arg6.view _ zero3_3, Stores.load_whole (Val := Elt F) arg7.view _ zero3_3]

/-- The rows after the first expert. -/
def rows3_0 (c : Dev nD) : Vec F S1x8x1024 .f32 :=
  k3_pay2 (grid3.coords t3_0) (iblk3 V a c 0 t3_0) (iblk3 V a c 3 t3_0) (iblk3 V a c 4 t3_0) (iblk3 V a c 1 t3_0) (iblk3 V a c 2 t3_0)
/-- The rows after both experts. -/
def rows3_1 (c : Dev nD) : Vec F S1x8x1024 .f32 :=
  k3_pay3 (grid3.coords t3_1) (iblk3 V a c 0 t3_1) (iblk3 V a c 3 t3_1) (iblk3 V a c 4 t3_1) (iblk3 V a c 1 t3_1) (rows3_0 V a c)

/-- Proof data of call 3: each input buffer keeps its block, the output buffer carries the rows; the table of chosen
    experts is kept whole beside the scoped buffers. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => iblk3 V a c 3 t
    | ⟨4, _⟩ => iblk3 V a c 4 t
    | ⟨5, _⟩ => if t.val = 0 then rows3_0 V a c else rows3_1 V a c
    | ⟨_ + 6, h⟩ => absurd h (Nat.not_lt.2 (Nat.le_add_left _ _))
  Φ _ := iprop(Pipeline.ΦA spec3 c ∗ Pipeline.prefHeld pre3 c (fun _ => fullShare) a.1)
  q _ := fullShare
  owed _ := 0

/-- The arrays are the contents at entry. -/
theorem A_eq3 (c : Dev nD) (w : Fin (cfg3 a).W) : (dat3 V a c).A w = V c (Pipeline.arrRef spec3 w) := by
  dsimp only [dat3]

/-- What the body leaves, window by window. -/
theorem after3_0 (c : Dev nD) (t : Fin (cfg3 a).N) : (dat3 V a c).after 0 t = iblk3 V a c 0 t := by rfl
theorem after3_1 (c : Dev nD) (t : Fin (cfg3 a).N) : (dat3 V a c).after 1 t = iblk3 V a c 1 t := by rfl
theorem after3_2 (c : Dev nD) (t : Fin (cfg3 a).N) : (dat3 V a c).after 2 t = iblk3 V a c 2 t := by rfl
theorem after3_3 (c : Dev nD) (t : Fin (cfg3 a).N) : (dat3 V a c).after 3 t = iblk3 V a c 3 t := by rfl
theorem after3_4 (c : Dev nD) (t : Fin (cfg3 a).N) : (dat3 V a c).after 4 t = iblk3 V a c 4 t := by rfl
theorem after3_5 (c : Dev nD) (t : Fin (cfg3 a).N) : (dat3 V a c).after 5 t = if t.val = 0 then rows3_0 V a c else rows3_1 V a c := by rfl

/-- Every input buffer holds its block when the body runs. -/
theorem before3_0 (c : Dev nD) (t : Fin (cfg3 a).N) (d) : (dat3 V a c).before 0 t d = iblk3 V a c 0 t :=
  before3_0_of V a (dat3 V a c) (A_eq3 V a c 0) (after3_0 V a c) t d
theorem before3_1 (c : Dev nD) (t : Fin (cfg3 a).N) (d) : (dat3 V a c).before 1 t d = iblk3 V a c 1 t :=
  before3_1_of V a (dat3 V a c) (A_eq3 V a c 1) (after3_1 V a c) t d
theorem before3_2 (c : Dev nD) (t : Fin (cfg3 a).N) (d) : (dat3 V a c).before 2 t d = iblk3 V a c 2 t :=
  before3_2_of V a (dat3 V a c) (A_eq3 V a c 2) (after3_2 V a c) t d
theorem before3_3 (c : Dev nD) (t : Fin (cfg3 a).N) (d) : (dat3 V a c).before 3 t d = iblk3 V a c 3 t :=
  before3_3_of V a (dat3 V a c) (A_eq3 V a c 3) (after3_3 V a c) t d
theorem before3_4 (c : Dev nD) (t : Fin (cfg3 a).N) (d) : (dat3 V a c).before 4 t d = iblk3 V a c 4 t :=
  before3_4_of V a (dat3 V a c) (A_eq3 V a c 4) (after3_4 V a c) t d

/-- The output block is written back at the last point only. -/
theorem flush3_5 : ∀ t : Fin (cfg3 a).N, ((cfg3 a).win 5).flush t = true ↔ t.val % 2 = 1 :=
  (fun t => Pipeline.Window.flushOf_const cc3_transform_5 (fun _ _ => rfl) (n := 2) (by decide) rfl t : ∀ t : Fin grid3.N, Pipeline.Window.flushOf grid3 true cc3_transform_5 t = true ↔ t.val % 2 = 1)

/-- At the last point the output buffer still holds the rows after the first expert. -/
theorem before3_5 (c : Dev nD) (d) : (dat3 V a c).before 5 t3_1 d = rows3_0 V a c := by
  have hl : (dat3 V a c).left 5 t3_0 d = rows3_0 V a c := by
    unfold Dat.left
    have hg : ∀ t : Fin (cfg3 a).N, (cfg3 a).idle 5 ((cfg3 a).grid.coords t) = false := fun t => live3_5 t
    rw [hg t3_0]
    exact (after3_5 V a c t3_0).trans (if_pos rfl)
  have e : (⟨t3_1.val - 1, Nat.lt_of_le_of_lt (Nat.sub_le _ _) t3_1.isLt⟩ : Fin (cfg3 a).N) = t3_0 := Fin.ext (show (1 : ℕ) - 1 = 0 from rfl)
  refine (Dat.before_of_pos (dat3 V a c) 5 t3_1 (show (1 : ℕ) ≠ 0 by decide) rfl d).trans ?_
  rw [if_neg (fun e => absurd ((flush3_5 a _).1 e) (show ¬ (0 : ℕ) % 2 = 1 by decide))]
  exact (congrArg (fun t => (dat3 V a c).left 5 t d) e).trans hl

/-- The windows' current buffers. -/
abbrev st3_0 (t : Fin (cfg3 a).N) := ((cfg3 a).win 0).stage ((cfg3 a).slots t 0)
abbrev st3_1 (t : Fin (cfg3 a).N) := ((cfg3 a).win 1).stage ((cfg3 a).slots t 1)
abbrev st3_2 (t : Fin (cfg3 a).N) := ((cfg3 a).win 2).stage ((cfg3 a).slots t 2)
abbrev st3_3 (t : Fin (cfg3 a).N) := ((cfg3 a).win 3).stage ((cfg3 a).slots t 3)
abbrev st3_4 (t : Fin (cfg3 a).N) := ((cfg3 a).win 4).stage ((cfg3 a).slots t 4)
abbrev st3_5 (t : Fin (cfg3 a).N) := ((cfg3 a).win 5).stage ((cfg3 a).slots t 5)

/-- The body at point `t`. -/
abbrev bodyAt3 (t : Fin (cfg3 a).N) : Prog (TpuEff nD τ sig (Elt F) Λ₀ .tc) PUnit :=
  cc3__expert_kernel (grid3.coords t) (Memref.whole main_v26) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5))

/-- What the body is called with at point `t`. -/
def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d))
    ∗ (∃ d, owns (c : Thread nD τ) (st3_2 a t) fullShare ((dat3 V a c).before 2 t d))
    ∗ (∃ d, owns (c : Thread nD τ) (st3_3 a t) fullShare ((dat3 V a c).before 3 t d))
    ∗ (∃ d, owns (c : Thread nD τ) (st3_4 a t) fullShare ((dat3 V a c).before 4 t d))
    ∗ (∃ d, owns (c : Thread nD τ) (st3_5 a t) fullShare ((dat3 V a c).before 5 t d)))

/-- What the body returns at point `t`. -/
def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t)
    ∗ owns (c : Thread nD τ) (st3_2 a t) fullShare ((dat3 V a c).after 2 t)
    ∗ owns (c : Thread nD τ) (st3_3 a t) fullShare ((dat3 V a c).after 3 t)
    ∗ owns (c : Thread nD τ) (st3_4 a t) fullShare ((dat3 V a c).after 4 t)
    ∗ owns (c : Thread nD τ) (st3_5 a t) fullShare ((dat3 V a c).after 5 t))

/-- The body between the two at the first point. -/
theorem sound_body3_A (c : Dev nD) :
    bodyPre3 V a c t3_0 ⊢ wp frame (wpE (defs₀ (F := F)) Variants.none c none) Set.univ (bodyAt3 a t3_0) (fun _ => bodyPost3 V a c t3_0) := by
  unfold bodyPre3 bodyPost3 bodyAt3
  simp only [before3_0, before3_1, before3_2, before3_3, before3_4]
  rw [show (dat3 V a c).Φ (Fin.succ t3_0) = (dat3 V a c).Φ (Fin.castSucc t3_0) from rfl,
    show (dat3 V a c).owesAt () (Fin.succ t3_0) = (dat3 V a c).owesAt () (Fin.castSucc t3_0) from rfl,
    after3_0, after3_1, after3_2, after3_3, after3_4, after3_5, if_pos (show (t3_0 : Fin grid3.N).val = 0 from rfl)]
  iintro ⟨HΦ, Ho, ⟨%d0, H0⟩, ⟨%d1, H1⟩, ⟨%d2, H2⟩, ⟨%d3, H3⟩, ⟨%d4, H4⟩, ⟨%d5, H5⟩⟩
  iapply (sound_kernel3_A c Set.univ (grid3.coords t3_0) _ _ _ _ _ _ _ _ _ _ _ _ _ _ ((cond3_1 t3_0).mpr rfl) (fun h => absurd ((cond3_2 t3_0).mp h) (by decide)) (iblk3 V a c 0 t3_0) (iblk3 V a c 1 t3_0) (iblk3 V a c 2 t3_0) (iblk3 V a c 3 t3_0) (iblk3 V a c 4 t3_0) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body between the two at the last point. -/
theorem sound_body3_B (c : Dev nD) :
    bodyPre3 V a c t3_1 ⊢ wp frame (wpE (defs₀ (F := F)) Variants.none c none) Set.univ (bodyAt3 a t3_1) (fun _ => bodyPost3 V a c t3_1) := by
  unfold bodyPre3 bodyPost3 bodyAt3
  simp only [before3_0, before3_1, before3_2, before3_3, before3_4, before3_5]
  rw [show (dat3 V a c).Φ (Fin.succ t3_1) = (dat3 V a c).Φ (Fin.castSucc t3_1) from rfl,
    show (dat3 V a c).owesAt () (Fin.succ t3_1) = (dat3 V a c).owesAt () (Fin.castSucc t3_1) from rfl,
    after3_0, after3_1, after3_2, after3_3, after3_4, after3_5, if_neg (show ¬ (t3_1 : Fin grid3.N).val = 0 by decide)]
  iintro ⟨HΦ, Ho, ⟨%d0, H0⟩, ⟨%d1, H1⟩, ⟨%d2, H2⟩, ⟨%d3, H3⟩, ⟨%d4, H4⟩, ⟨%d5, H5⟩⟩
  iapply (sound_kernel3_B c Set.univ (grid3.coords t3_1) _ _ _ _ _ _ _ _ _ _ _ _ _ _ (fun h => absurd ((cond3_1 t3_1).mp h) (by decide)) ((cond3_2 t3_1).mpr rfl) (iblk3 V a c 0 t3_1) (iblk3 V a c 1 t3_1) (iblk3 V a c 2 t3_1) (iblk3 V a c 3 t3_1) (iblk3 V a c 4 t3_1) (rows3_0 V a c) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body between the two at every point. -/
theorem sound_body3 (c : Dev nD) (t : Fin (cfg3 a).N) :
    bodyPre3 V a c t ⊢ wp frame (wpE (defs₀ (F := F)) Variants.none c none) Set.univ (bodyAt3 a t) (fun _ => bodyPost3 V a c t) := by
  rcases fin_N3 t with rfl | rfl
  · exact sound_body3_A V a c
  · exact sound_body3_B V a c

/-- The body table's row at point `t`'s slots is the body as `bodyAt3` spells it. -/
theorem defs₀_row3 (t : Fin (cfg3 a).N) :
    defs₀ (F := F) .tc (cfg3 a).body ((cfg3 a).bodyArgs t ((cfg3 a).slots t)) = bodyAt3 a t := by
  unfold defs₀; rw [Defs.onTc_tc]

/-- The body obligation at every grid point. -/
theorem body_obligation3 (c : Dev nD) : BodyObligation (dat3 (F := F) V a c) (defs₀ (F := F)) Variants.none () Set.univ := fun t => by
  rw [bigSep_W3, bigSep_W3, defs₀_row3]
  refine triple_restated (sound_body3 V a c t) rfl .rfl fun _ => ?_
  have h5 : (cfg3 a).idle 5 ((cfg3 a).grid.coords t) = false := live3_5 t
  simp only [h5, show idle3 5 (((pcfg3 (F := F)).gridAt a.1).coords t) = false from live3_5 t]
  exact BI.Entails.refl (bodyPost3 V a c t)

end Cert.KernelIdeal.Gen

end
-- ==== Proof.KernelIdeal.Table.lean ====
module

public import proofs.«01_k».proof.Proof.KernelIdeal.Region2Values
public import Idealize.ShloMosaic.Lib.Pipeline.Value
/-! # The table of chosen experts holds numbers below eight -/

@[expose] public section

set_option maxRecDepth 16384

noncomputable section

namespace Cert.KernelIdeal.Gen

open Idealize.ShloMosaic Idealize.ShloMosaic.TcCoe

variable {F : FTy → Type} [FloatOps F]

/-- The lesser of two words that are not negative is not negative. -/
theorem minsi_nonneg {x y : BitVec 32} (hx : 0 ≤ x.toInt) (hy : 0 ≤ y.toInt) : 0 ≤ (IntOp.minsi x y).toInt := by
  unfold IntOp.minsi; split <;> assumption

/-- The least of words that are not negative is not negative. -/
theorem foldl_minsi_nonneg {ι : Type} (x : ι → BitVec 32) (hx : ∀ i, 0 ≤ (x i).toInt) :
    ∀ (l : List ι) (r : BitVec 32), 0 ≤ r.toInt → 0 ≤ (l.foldl (fun r n => IntOp.minsi r (x n)) r).toInt
  | [], r, h => h
  | i :: l, r, h => foldl_minsi_nonneg x hx l _ (minsi_nonneg h (hx i))

/-- A word that is not negative, cut at seven, is below eight. -/
theorem minsi_seven {x : BitVec 32} (hx : 0 ≤ x.toInt) : (IntOp.minsi x 7#32).toNat < 8 := by
  unfold IntOp.minsi
  split
  · next h =>
    have h' : x.toInt < 7 := by simpa [BitVec.slt] using h
    rw [BitVec.toInt_eq_toNat_cond] at hx h'
    split at hx <;> omega
  · decide

/-- The pick of two numbers below eight is below eight. -/
theorem select_lt (m : BitVec 1) {x y : BitVec 32} (hx : x.toNat < 8) (hy : y.toNat < 8) : (Scalar.select m x y).toNat < 8 := by
  unfold Scalar.select; split <;> assumption

/-- The least of the row numbers a mask keeps is not negative. -/
theorem least_nonneg (v : IVec S8x1 32) (hv : ∀ k, 0 ≤ (v k).toInt) (m : IVec S8x1 1) (k : S1.Idx) :
    0 ≤ (multiReductionI .minsi [1, 2] S1 (shapeCast S1x8x1 (select m v (broadcast S8x1 8#32)) shapeCasts_S8x1_S1x8x1) 2147483647#32 reduces_S1x8x1_S1 rfl k).toInt := by
  unfold multiReductionI reduceFold
  refine foldl_minsi_nonneg (fun n => shapeCast S1x8x1 (select m v (broadcast S8x1 8#32)) shapeCasts_S8x1_S1x8x1 (S1x8x1.rowMajor.symm n)) (fun n => ?_) _ _ (by decide)
  unfold shapeCast select Scalar.select broadcast

  split
  · exact hv _
  · decide

/-- The row numbers are not negative. -/
theorem rows_nonneg (k : S8x1.Idx) : 0 ≤ (iota .tc S8x1 32 [0] iota_S8x1_d0_w32 k).toInt := by
  rw [iota_single_apply]
  exact (by decide : ∀ n : Fin 8, 0 ≤ (BitVec.ofNat 32 n.val).toInt) (k 0)

/-- The numbers chosen are below eight. -/
theorem Blocks2.chosen_lt (B : Blocks2 F) (i : grid2.Coords) (j : S1x8.Idx) : (B.chosen i j).toNat < 8 := by
  unfold Blocks2.chosen k2_pay32
  generalize k2_pay8 (B.ex i) (B.exSum i) = m8
  generalize k2_pay9 (B.ex i) (B.exSum i) = m9
  have hv := rows_nonneg
  generalize iota .tc S8x1 32 [0] iota_S8x1_d0_w32 = v at hv
  exact select_lt _ (minsi_seven (least_nonneg v hv _ _)) (select_lt _ (minsi_seven (least_nonneg v hv _ _)) (show (0#32).toNat < 8 by decide))

/-- A table of numbers below eight is one the expert call may run at. -/
theorem ok3_of_lt (pf : pre3.Contents (Elt F)) (h : ∀ k, (pf 0 k).toNat < 8) : ok3 pf := by
  have hat : ∀ r hr, ((pf.at 0 r hr : BitVec 32)).toNat < 8 := fun r hr => h _
  refine ⟨fun i => ⟨fun a => ?_, .inl rfl⟩, fun i => ⟨fun a => ?_, .inl rfl⟩, ⟨rfl, rfl, rfl, ?_, ?_, ?_⟩⟩
  · have := hat (Rect.unit (s := S2) ![(Scalar.indexCast (BitVec.ofNat 32 (i 0).val) : Index).toNat] S1.size (k3_off1_inb i)) numel1_S1
    fin_cases a
    · show (_ + 1) * 1 ≤ 8; exact Nat.mul_one _ ▸ this
    · show (0 + 1) * 1024 ≤ 1024; decide
    · show (0 + 1) * 1024 ≤ 1024; decide
  · have := hat (Rect.unit (s := S2) ![(Scalar.indexCast (BitVec.ofNat 32 (i 0).val) : Index).toNat] S1.size (k3_off1_inb i)) numel1_S1
    fin_cases a
    · show (_ + 1) * 1 ≤ 8; exact Nat.mul_one _ ▸ this
    · show (0 + 1) * 1 ≤ 1; decide
    · show (0 + 1) * 1024 ≤ 1024; decide
  · exact (by decide : ∀ (a : Fin 3) (a' : Fin 3), a.val = a'.val → (spec3 2).size a = (spec3 5).size a')
  · intro c a a' e
    obtain rfl : a = a' := Fin.ext e
    rfl
  · intro u u' hu hf
    exfalso
    rcases fin_N3 u with rfl | rfl
    · exact absurd hu (Nat.not_lt_zero _)
    · simp [Pipeline.WinSpec.fetchAt] at hf
      rcases hf with h | ⟨h, e⟩
      · exact absurd h (by decide)
      · exact e rfl

end Cert.KernelIdeal.Gen

end
-- ==== Proof.KernelIdeal.Between.lean ====
module

public import proofs.«01_k».proof.Proof.KernelIdeal.Region0
public import proofs.«01_k».proof.Proof.KernelIdeal.Region1
public import proofs.«01_k».proof.Proof.KernelIdeal.Region2
public import proofs.«01_k».proof.Proof.KernelIdeal.Region3
public import proofs.«01_k».proof.Proof.KernelIdeal.Table
public import proofs.«01_k».proof.Proof.Gen.KernelIdeal.Regions
public import Idealize.ShloMosaic.Lib.Pipeline.ValueKit
/-! # What the buffers hold between the calls -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- The host stretches write no argument array. -/
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)
theorem hostOps3_args : ∀ a ∈ argRefs, a ∉ hostOps3_W := ListAll.forall_mem_of_all_decide (by decide +kernel)
theorem hostOps4_args : ∀ a ∈ argRefs, a ∉ hostOps4_W := ListAll.forall_mem_of_all_decide (by decide +kernel)

/-- A core's buffers at launch. -/
abbrev W0 : Dev nD → Valuation τ sig (Elt F) := fun c b => m (c, b)
theorem W0_args (c : Dev nD) : ∀ a ∈ argRefs, W0 m c (Proc.devRef .tc a) = m ((c : Thread nD τ).loc a) := fun _ _ => rfl

/-- The buffers after host stretch 0. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ (hostOps0_writes (F := F)) h
theorem W1_args (c : Dev nD) : ∀ a ∈ argRefs, W1 m c (Proc.devRef .tc a) = m ((c : Thread nD τ).loc a) :=
  fun a ha => (W1_of m c a (hostOps0_args a ha)).trans (W0_args m c a ha)

/-- The same, read at the references of call 0. -/
abbrev E1 : (c : Dev nD) → (b : Ref sig .tc) → Buf (Elt F) ((c : Thread nD τ).loc b) := fun c b => W1 m c b

/-- The buffers after call 0: its arrays as its pipeline leaves them, the others as before. -/
def W2 (c : Dev nD) : Valuation τ sig (Elt F) :=
  Pipeline.withArrays spec0 c (W1 m c) fun w => (dat0 (E1 m) c).arrAt w (cfg0).N
theorem W2_arr (c : Dev nD) (w : Fin (cfg0).W) :
    W2 m c (Proc.devRef .tc (Pipeline.arrRef spec0 w)) = (dat0 (E1 m) c).arrAt w (cfg0).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- What is no result of call 0 is unchanged. -/
theorem W2_of (c : Dev nD) (r : Ref sig .tc) (h : ∀ w : Fin (cfg0).W, Pipeline.arrRef spec0 w = r → ((cfg0).win w).isOut = false) :
    W2 m c (Proc.devRef .tc r) = W1 m c (Proc.devRef .tc r) := by
  by_cases hw : ∃ w : Fin (cfg0).W, Pipeline.arrRef spec0 w = r
  · obtain ⟨w, rfl⟩ := hw
    exact (W2_arr m c w).trans (((dat0 (E1 m) c).arrAt_in w (h w rfl) _).trans (A_eq0 (E1 m) c w))
  · exact W2_of_ne m c r fun w e => hw ⟨w, e⟩
theorem argsIn0 : ∀ a ∈ argRefs, ∀ w : Fin (cfg0).W, Pipeline.arrRef spec0 w = a → ((cfg0).win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
/-- The same, read at the references of call 0. -/
abbrev E2 : (c : Dev nD) → (b : Ref sig .tc) → Buf (Elt F) ((c : Thread nD τ).loc b) := fun c b => W2 m c b
theorem hF0 (c : Dev nD) (w : Fin (cfg0).W) : (dat0 (E1 m) c).arrAt w (cfg0).N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- The buffers after host stretch 1. -/
abbrev W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ (hostOps1_writes (F := F)) h
theorem W3_args (c : Dev nD) : ∀ a ∈ argRefs, W3 m c (Proc.devRef .tc a) = m ((c : Thread nD τ).loc a) :=
  fun a ha => (W3_of m c a (hostOps1_args a ha)).trans (W2_args m c a ha)

/-- The same, read at the references of call 1. -/
abbrev E3 : (c : Dev nD) → (b : Ref sig .tc) → Buf (Elt F) ((c : Thread nD τ).loc b) := fun c b => W3 m c b

/-- The buffers after call 1: its arrays as its pipeline leaves them, the others as before. -/
def W4 (c : Dev nD) : Valuation τ sig (Elt F) :=
  Pipeline.withArrays spec1 c (W3 m c) fun w => (dat1 (E3 m) c).arrAt w (cfg1).N
theorem W4_arr (c : Dev nD) (w : Fin (cfg1).W) :
    W4 m c (Proc.devRef .tc (Pipeline.arrRef spec1 w)) = (dat1 (E3 m) c).arrAt w (cfg1).N := by
  unfold W4; exact (dat1 (E3 m) c).withArrays_arrAt (launch₀1 (F := F)).sharedIn _ (A_eq1 (E3 m) c) w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- What is no result of call 1 is unchanged. -/
theorem W4_of (c : Dev nD) (r : Ref sig .tc) (h : ∀ w : Fin (cfg1).W, Pipeline.arrRef spec1 w = r → ((cfg1).win w).isOut = false) :
    W4 m c (Proc.devRef .tc r) = W3 m c (Proc.devRef .tc r) := by
  by_cases hw : ∃ w : Fin (cfg1).W, Pipeline.arrRef spec1 w = r
  · obtain ⟨w, rfl⟩ := hw
    exact (W4_arr m c w).trans (((dat1 (E3 m) c).arrAt_in w (h w rfl) _).trans (A_eq1 (E3 m) c w))
  · exact W4_of_ne m c r fun w e => hw ⟨w, e⟩
theorem argsIn1 : ∀ a ∈ argRefs, ∀ w : Fin (cfg1).W, Pipeline.arrRef spec1 w = a → ((cfg1).win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn1 a ha)).trans (W3_args m c a ha)
/-- The same, read at the references of call 1. -/
abbrev E4 : (c : Dev nD) → (b : Ref sig .tc) → Buf (Elt F) ((c : Thread nD τ).loc b) := fun c b => W4 m c b
theorem hF1 (c : Dev nD) (w : Fin (cfg1).W) : (dat1 (E3 m) c).arrAt w (cfg1).N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- The buffers after host stretch 2. -/
abbrev W5 : Dev nD → Valuation τ sig (Elt F) := fun c => StableHlo.after hostOps2 (W4 m c)
theorem W5_of (c : Dev nD) (r : Ref sig .tc) (h : r ∉ hostOps2_W) : W5 m c (Proc.devRef .tc r) = W4 m c (Proc.devRef .tc r) :=
  StableHlo.after_of_writes_sub hostOps2 _ (hostOps2_writes (F := F)) h
theorem W5_args (c : Dev nD) : ∀ a ∈ argRefs, W5 m c (Proc.devRef .tc a) = m ((c : Thread nD τ).loc a) :=
  fun a ha => (W5_of m c a (hostOps2_args a ha)).trans (W4_args m c a ha)

/-- The same, read at the references of call 2. -/
abbrev E5 : (c : Dev nD) → (b : Ref sig .tc) → Buf (Elt F) ((c : Thread nD τ).loc b) := fun c b => W5 m c b

/-- The buffers after call 2: its arrays as its pipeline leaves them, the others as before. -/
def W6 (c : Dev nD) : Valuation τ sig (Elt F) :=
  Pipeline.withArrays spec2 c (W5 m c) fun w => (dat2 (E5 m) c).arrAt w (cfg2).N
theorem W6_arr (c : Dev nD) (w : Fin (cfg2).W) :
    W6 m c (Proc.devRef .tc (Pipeline.arrRef spec2 w)) = (dat2 (E5 m) c).arrAt w (cfg2).N := by
  unfold W6; exact (dat2 (E5 m) c).withArrays_arrAt (launch₀2 (F := F)).sharedIn _ (A_eq2 (E5 m) c) w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- What is no result of call 2 is unchanged. -/
theorem W6_of (c : Dev nD) (r : Ref sig .tc) (h : ∀ w : Fin (cfg2).W, Pipeline.arrRef spec2 w = r → ((cfg2).win w).isOut = false) :
    W6 m c (Proc.devRef .tc r) = W5 m c (Proc.devRef .tc r) := by
  by_cases hw : ∃ w : Fin (cfg2).W, Pipeline.arrRef spec2 w = r
  · obtain ⟨w, rfl⟩ := hw
    exact (W6_arr m c w).trans (((dat2 (E5 m) c).arrAt_in w (h w rfl) _).trans (A_eq2 (E5 m) c w))
  · exact W6_of_ne m c r fun w e => hw ⟨w, e⟩
theorem argsIn2 : ∀ a ∈ argRefs, ∀ w : Fin (cfg2).W, Pipeline.arrRef spec2 w = a → ((cfg2).win w).isOut = false :=
  ListAll.forall_mem_of_all_decide (by decide +kernel)
theorem W6_args (c : Dev nD) : ∀ a ∈ argRefs, W6 m c (Proc.devRef .tc a) = m ((c : Thread nD τ).loc a) :=
  fun a ha => (W6_of m c a (argsIn2 a ha)).trans (W5_args m c a ha)
/-- The same, read at the references of call 2. -/
abbrev E6 : (c : Dev nD) → (b : Ref sig .tc) → Buf (Elt F) ((c : Thread nD τ).loc b) := fun c b => W6 m c b
theorem hF2 (c : Dev nD) (w : Fin (cfg2).W) : (dat2 (E5 m) c).arrAt w (cfg2).N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-- The buffers after host stretch 3. -/
abbrev W7 : Dev nD → Valuation τ sig (Elt F) := fun c => StableHlo.after hostOps3 (W6 m c)
theorem W7_of (c : Dev nD) (r : Ref sig .tc) (h : r ∉ hostOps3_W) : W7 m c (Proc.devRef .tc r) = W6 m c (Proc.devRef .tc r) :=
  StableHlo.after_of_writes_sub hostOps3 _ (hostOps3_writes (F := F)) h
theorem W7_args (c : Dev nD) : ∀ a ∈ argRefs, W7 m c (Proc.devRef .tc a) = m ((c : Thread nD τ).loc a) :=
  fun a ha => (W7_of m c a (hostOps3_args a ha)).trans (W6_args m c a ha)

/-- The same, read at the references of call 3. -/
abbrev E7 : (c : Dev nD) → (b : Ref sig .tc) → Buf (Elt F) ((c : Thread nD τ).loc b) := fun c b => W7 m c b

/-- Call 2 leaves the chosen experts of its first block in the table's source. -/
theorem arr2_17 (c : Dev nD) : (dat2 (E5 m) c).arrAt 17 cfg2.N = (blocks2 (E5 m) c t2_0).chosen (grid2.coords t2_0) := by
  refine (dat2 (E5 m) c).arrAt_eq_of_covers 17 _ (by decide +kernel) fun t hf y => ?_
  have ht : t = t2_7 := Fin.ext (by have h := (flush2_17 t).1 hf; have := lt_of_lt_of_eq t.isLt N_2; show t.val = 7; omega)
  subst ht
  blk_simp
  rw [after2_17]
  refine congrArg _ (funext fun a => ?_)
  have e0 : win2_17.index t2_7 0 = 0 := by decide +kernel
  have e1 : win2_17.index t2_7 1 = 0 := by decide +kernel
  fin_cases a <;> first | rfl | (apply Fin.ext; blk_simp; simp [e0, e1])

/-- The table call 3 reads. -/
def tbl3 : pre3.Contents (Elt F) := fun j => W7 m (0 : Dev nD) (Proc.devRef .tc (pre3.ref j))
/-- Its entries are below eight. -/
theorem tbl3_lt (k) : (tbl3 m 0 k : BitVec 32).toNat < 8 := by
  have h6 : ∀ j, (W6 m 0 (Proc.devRef .tc main_v24_4) j : BitVec 32).toNat < 8 := fun j => by
    have e : W6 m 0 (Proc.devRef .tc main_v24_4) = _ := (W6_arr m 0 17).trans (arr2_17 m 0)
    rw [e]; exact Blocks2.chosen_lt _ _ j
  exact h6 _
/-- So call 3 may run at it. -/
def adm3 : (pcfg3 (F := F)).Adm := ⟨tbl3 m, ok3_of_lt (tbl3 m) (tbl3_lt m)⟩

/-- The buffers after call 3: its arrays as its pipeline leaves them, the others as before. -/
def W8 (c : Dev nD) : Valuation τ sig (Elt F) :=
  Pipeline.withArrays spec3 c (W7 m c) fun w => (dat3 (E7 m) (adm3 m) c).arrAt w (cfg3 (adm3 m)).N
theorem W8_arr (c : Dev nD) (w : Fin (cfg3 (adm3 m)).W) :
    W8 m c (Proc.devRef .tc (Pipeline.arrRef spec3 w)) = (dat3 (E7 m) (adm3 m) c).arrAt w (cfg3 (adm3 m)).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- What is no result of call 3 is unchanged. -/
theorem W8_of (c : Dev nD) (r : Ref sig .tc) (h : ∀ w : Fin (cfg3 (adm3 m)).W, Pipeline.arrRef spec3 w = r → ((cfg3 (adm3 m)).win w).isOut = false) :
    W8 m c (Proc.devRef .tc r) = W7 m c (Proc.devRef .tc r) := by
  by_cases hw : ∃ w : Fin (cfg3 (adm3 m)).W, Pipeline.arrRef spec3 w = r
  · obtain ⟨w, rfl⟩ := hw
    exact (W8_arr m c w).trans (((dat3 (E7 m) (adm3 m) c).arrAt_in w (h w rfl) _).trans (A_eq3 (E7 m) (adm3 m) c w))
  · exact W8_of_ne m c r fun w e => hw ⟨w, e⟩
theorem specIn3 : ∀ a ∈ argRefs, ∀ w : Fin 6, Pipeline.arrRef spec3 w = a → (spec3 w).isOut = false :=
  ListAll.forall_mem_of_all_decide (by decide +kernel)
theorem argsIn3 : ∀ a ∈ argRefs, ∀ w : Fin (cfg3 (adm3 m)).W, Pipeline.arrRef spec3 w = a → ((cfg3 (adm3 m)).win w).isOut = false :=
  fun a ha w e => specIn3 a ha w e
theorem W8_args (c : Dev nD) : ∀ a ∈ argRefs, W8 m c (Proc.devRef .tc a) = m ((c : Thread nD τ).loc a) :=
  fun a ha => (W8_of m c a (argsIn3 m a ha)).trans (W7_args m c a ha)
/-- The same, read at the references of call 3. -/
abbrev E8 : (c : Dev nD) → (b : Ref sig .tc) → Buf (Elt F) ((c : Thread nD τ).loc b) := fun c b => W8 m c b
theorem hF3 (c : Dev nD) (w : Fin (cfg3 (adm3 m)).W) : (dat3 (E7 m) (adm3 m) c).arrAt w (cfg3 (adm3 m)).N = E8 m c (Pipeline.arrRef spec3 w) :=
  (W8_arr m c w).symm
theorem hrest3 (c : Dev nD) : ∀ b, b ∉ Finset.univ.image (Pipeline.arrRef spec3) → E8 m c b = E7 m c b :=
  fun b hb => W8_of_ne m c b fun w e => hb (Finset.mem_image.mpr ⟨w, Finset.mem_univ _, e⟩)

/-- The buffers after host stretch 4. -/
abbrev W9 : Dev nD → Valuation τ sig (Elt F) := fun c => StableHlo.after hostOps4 (W8 m c)
theorem W9_of (c : Dev nD) (r : Ref sig .tc) (h : r ∉ hostOps4_W) : W9 m c (Proc.devRef .tc r) = W8 m c (Proc.devRef .tc r) :=
  StableHlo.after_of_writes_sub hostOps4 _ (hostOps4_writes (F := F)) h
theorem W9_args (c : Dev nD) : ∀ a ∈ argRefs, W9 m c (Proc.devRef .tc a) = m ((c : Thread nD τ).loc a) :=
  fun a ha => (W9_of m c a (hostOps4_args a ha)).trans (W8_args m c a ha)

end Cert.KernelIdeal.Gen

end
-- ==== Proof.KernelIdeal.Run.lean ====
module

public import proofs.«01_k».proof.Proof.KernelIdeal.Between
/-! # The whole program, segment by segment -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents the pipelines read their tables at: only call 3 has a table. -/
abbrev adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => adm3 m
/-- The calls' proof data, each at what its arrays hold on entry. -/
def pdats : (p : Fin 4) → (c : Dev nD) → Dat τ (Elt F) Unit ℕ (UR sig nD τ) ℕ (Pipeline.pin (pcfgs (F := F)) (adm m) p) c
  | ⟨0, _⟩ => fun c => dat0 (E1 m) c
  | ⟨1, _⟩ => fun c => dat1 (E3 m) c
  | ⟨2, _⟩ => fun c => dat2 (E5 m) c
  | ⟨3, _⟩ => fun c => dat3 (E7 m) (adm3 m) c
abbrev 𝒱₀ : Variants := Variants.none
/-- Nothing is owed, so no level is assigned. -/
abbrev L : GSem nD τ sig → Finset Unit := fun _ => ∅
abbrev lv : GSem nD τ sig → Unit → ℕ := fun _ _ => 0
/-- Beside the buffers each segment carries the generator register and an empty debt. -/
abbrev R (c : Dev nD) : sProp 𝕄 := iprop((∃ r, prngReg c r) ∗ ∃ W, owes (c : Thread nD τ) (0 : CellTallies nD τ sig Unit) W)
/-- A host stretch from the buffers `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The buffers at the end, and the generator register. -/
abbrev Tₙ (c : Dev nD) : sProp 𝕄 := iprop(StableHlo.held (c : Thread nD τ) (Pipeline.ucRefs τ sig) (W9 m c) ∗ ∃ r, prngReg c r)

set_option backward.isDefEq.respectTransparency.types false in
/-- Call 0 as a segment, from the buffers `W1` to `W2`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (E1 m c) (E2 m c) ((pdats m 0 c).arrAt · (cfg0).N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment, from the buffers `W3` to `W4`. -/
def reg1 : Pipeline.RegionSeg (pcfgs (F := F)) (adm m) (pdats m) () defs₀ 𝒱₀ L lv 1 where
  win := (launch₀1 (F := F)).win
  block_pos := (launch₀1 (F := F)).block_pos
  stage_whole := (launch₀1 (F := F)).stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs_shared (p := 1) (pcfgs (F := F)) (adm m) (pdats m) (launch₀1 (F := F)).win (launch₀1 (F := F)).sharedIn (launch₀1 (F := F)).arr_whole c
      (fun _ _ => rfl) (E3 m c) (A_eq1 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) (adm m) (Ix := Unit) (Name := ℕ) (U := UR sig nD τ) (Lvl := ℕ)
      (launch₀1 (F := F)).win (launch₀1 (F := F)).sharedIn (launch₀1 (F := F)).arr_whole c (pdats m) (fun _ _ => rfl)
      (E3 m c) (E4 m c) ((pdats m 1 c).arrAt · (cfg1).N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment, from the buffers `W5` to `W6`. -/
def reg2 : Pipeline.RegionSeg (pcfgs (F := F)) (adm m) (pdats m) () defs₀ 𝒱₀ L lv 2 where
  win := (launch₀2 (F := F)).win
  block_pos := (launch₀2 (F := F)).block_pos
  stage_whole := (launch₀2 (F := F)).stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs_shared (p := 2) (pcfgs (F := F)) (adm m) (pdats m) (launch₀2 (F := F)).win (launch₀2 (F := F)).sharedIn (launch₀2 (F := F)).arr_whole c
      (fun _ _ => rfl) (E5 m c) (A_eq2 (E5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) (adm m) (Ix := Unit) (Name := ℕ) (U := UR sig nD τ) (Lvl := ℕ)
      (launch₀2 (F := F)).win (launch₀2 (F := F)).sharedIn (launch₀2 (F := F)).arr_whole c (pdats m) (fun _ _ => rfl)
      (E5 m c) (E6 m c) ((pdats m 2 c).arrAt · (cfg2).N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What call 3 leaves of the unscoped buffers splits into its table and the others. -/
theorem rest3_split (c : Dev nD) (V : (b : Ref sig .tc) → Buf (Elt F) ((c : Thread nD τ).loc b)) (hV : ∀ j, V (pre3.ref j) = tbl3 m j) :
    (Pipeline.unscopedRest (Ix := Unit) (Name := ℕ) (U := UR sig nD τ) (Lvl := ℕ) spec3 c V : sProp 𝕄)
      = iprop(Pipeline.prefHeld pre3 c (fun _ => fullShare) (adm3 m).1 ∗ Pipeline.unscopedRestP pre3 spec3 c V) := by
  have h := Pipeline.unscopedRest_split (Ix := Unit) (Name := ℕ) (U := UR sig nD τ) (Lvl := ℕ) (launch3 (F := F)).pre c V
  have e : (fun j => V (pre3.ref j)) = (adm3 m).1 := funext hV
  rw [← e]; exact h
/-- On every device the table is the one read. -/
theorem table_entry (c : Dev nD) (j) : E7 m c (pre3.ref j) = tbl3 m j := by
  obtain rfl : c = 0 := Subsingleton.elim _ _; rfl

set_option backward.isDefEq.respectTransparency.types false in
/-- Call 3 as a segment, from the buffers `W7` to `W8`. -/
def reg3 : Pipeline.RegionSeg (pcfgs (F := F)) (adm m) (pdats m) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (E7 m) (adm3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop((∃ r, prngReg c r) ∗ Pipeline.prefHeld pre3 c (fun _ => fullShare) (adm3 m).1)
  Z c := Pipeline.unscopedRestP (Ix := Unit) (Name := ℕ) (U := UR sig nD τ) (Lvl := ℕ) pre3 spec3 c (E7 m c)
  hentry c := by
    rw [Pipeline.ownSems0_none]
    have hsplit := Pipeline.arrays_of_unscopedBufs (p := 3) (pcfgs (F := F)) (adm m) (pdats m) (launch3 (F := F)).win (launch3 (F := F)).arr_whole c
      ((pdats m 3 c).share_full fun _ => rfl) (E7 m c) (A_eq3 (E7 m) (adm3 m) c)
    rw [Pipeline.unscopedBufs_held] at hsplit
    iintro ⟨⟨Hub, Hp, HO⟩, -, -⟩
    ihave H := hsplit $$ Hub
    icases H with ⟨Ha, Hrest⟩
    ihave Hs := (show (Pipeline.unscopedRest (Ix := Unit) (Name := ℕ) (U := UR sig nD τ) (Lvl := ℕ) spec3 c (E7 m c) : sProp 𝕄) ⊢ _ from
      (rest3_split m c (E7 m c) (table_entry m c)).le) $$ Hrest
    icases Hs with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = iprop(Pipeline.ΦA spec3 c ∗ Pipeline.prefHeld pre3 c (fun _ => fullShare) (adm3 m).1) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m 3 c).Φ (Fin.last _) = iprop(Pipeline.ΦA spec3 c ∗ Pipeline.prefHeld pre3 c (fun _ => fullShare) (adm3 m).1) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm m) (Ix := Unit) (Name := ℕ) (U := UR sig nD τ) (Lvl := ℕ)
      (launch3 (F := F)).win (launch3 (F := F)).arr_whole c (pdats m) ((pdats m 3 c).share_full fun _ => rfl)
      (E7 m c) (E8 m c) ((pdats m 3 c).arrAt · (cfg3 (adm3 m)).N) (hF3 m c) (hrest3 m c)
    rw [Pipeline.unscopedBufs_held] at hjoin
    iintro ⟨Ha, HO, ⟨HY, Ht⟩, Hrest⟩
    ihave Hrest := (show iprop(Pipeline.prefHeld pre3 c (fun _ => fullShare) (adm3 m).1 ∗ Pipeline.unscopedRestP pre3 spec3 c (E7 m c))
        ⊢ (Pipeline.unscopedRest (Ix := Unit) (Name := ℕ) (U := UR sig nD τ) (Lvl := ℕ) spec3 c (E7 m c) : sProp 𝕄) from
      (rest3_split m c (E7 m c) (table_entry m c)).ge) $$ [Ht Hrest]
    · isplitl [Ht] <;> iassumption
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's nine segments. -/
abbrev parts : List (Pipeline.Seg (pcfgs (F := F)) (adm m) (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m),
    .host (hseg hostOps4 hostOps4_sub hostOps4_fresh (W8 m)) ]
/-- The program is their run. -/
theorem main_run (c : Dev nD) : main (F := F) c = Pipeline.Seg.run (parts m) := (main_chain c).trans (by chain_rfl)

set_option backward.isDefEq.respectTransparency.types false in
/-- The program ends, with every buffer at `W9` and every semaphore at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W9 m c b) ∧ r.2.sem = fun _ => 0) :=
  Pipeline.θ_run_regions_kit_sems (pcfgs (F := F)) (adm m) (pdats m) () (cellOf_inj (adm m)) emb₁ defs₀ 𝒱₀ L lv m ρ main (parts m)
    (fun c Q => by rw [main_run m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W9 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h hz => ⟨h, funext fun g => hz g (.inr (regions_no_unscoped g.2))⟩)

/-- A buffer of the TensorCore's that is in no scope is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the end an argument array is as it was. -/
theorem end_arg {s : (ℓ : Loc nD τ sig) → Buf (Elt F) ℓ} (c : Dev nD)
    (h : ∀ b ∈ Pipeline.ucRefs τ sig, s (((c : Thread nD τ)).1, b) = W9 m c b) (a : Ref sig .tc) (ha : a ∈ argRefs)
    (hs : ¬ (Proc.devRef .tc a : DevRef τ sig).isScoped) : s ((c.tc : Thread nD τ).loc a) = m ((c.tc : Thread nD τ).loc a) :=
  (h _ (mem_uc a hs)).trans (W9_args m c a ha)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => ⟨end_arg m c (h.1 c) main_arg0 (by decide) (by decide), end_arg m c (h.1 c) main_arg1 (by decide) (by decide), end_arg m c (h.1 c) main_arg2 (by decide) (by decide), end_arg m c (h.1 c) main_arg3 (by decide) (by decide), end_arg m c (h.1 c) main_arg4 (by decide) (by decide), end_arg m c (h.1 c) main_arg5 (by decide) (by decide), end_arg m c (h.1 c) main_arg6 (by decide) (by decide), end_arg m c (h.1 c) main_arg7 (by decide) (by decide), end_arg m c (h.1 c) main_arg8 (by decide) (by decide), end_arg m c (h.1 c) main_arg9 (by decide) (by decide), end_arg m c (h.1 c) main_arg10 (by decide) (by decide), end_arg m c (h.1 c) main_arg11 (by decide) (by decide), end_arg m c (h.1 c) main_arg12 (by decide) (by decide), end_arg m c (h.1 c) main_arg13 (by decide) (by decide), end_arg m c (h.1 c) main_arg14 (by decide) (by decide), end_arg m c (h.1 c) main_arg15 (by decide) (by decide), end_arg m c (h.1 c) main_arg16 (by decide) (by decide)⟩, h.2⟩) (run m ρ)

end Cert.KernelIdeal.Gen

end
-- ==== Proof.Maths.lean ====
module

public import Idealize.ShloMosaic.Lib.Pointwise
/-! # Facts about the extended reals -/

@[expose] public section

namespace Cert.Maths

open Idealize.ShloMosaic

theorem bits_1024 : Ideal.ofBits .f32 0x44800000#32 = ((1024 : ℝ) : EReal) := by
  simp [Ideal.ofBits, Ideal.ieee, -EReal.coe_mul]; norm_num
theorem eps_pos : 0 < Ideal.ofBits .f32 0x3727C5AC#32 := by
  simp [Ideal.ofBits, Ideal.ieee, -EReal.coe_mul]

/-- A square is not negative. -/
theorem sq_nonneg (a : EReal) : 0 ≤ a * a := by
  induction a with
  | bot => simp
  | top => simp
  | coe r => exact_mod_cast mul_self_nonneg r

/-- Dividing by the root of a positive number is multiplying by its reciprocal root. -/
theorem div_sqrt (a v : EReal) (h : 0 < v) : Ideal.div a (Ideal.sqrt v) = a * Ideal.rsqrt v := by
  induction v with
  | bot => simp at h
  | top =>
    rw [show Ideal.sqrt ⊤ = ⊤ from rfl, show Ideal.rsqrt ⊤ = 0 from rfl, Ideal.div, if_neg EReal.top_ne_zero, EReal.inv_top]
  | coe r =>
    have hr : 0 < r := by exact_mod_cast h
    have hs : Real.sqrt r ≠ 0 := (Real.sqrt_pos.mpr hr).ne'
    have e1 : Ideal.sqrt (r : EReal) = (Real.sqrt r : EReal) := (show Ideal.sqrt (r : EReal) = if r < 0 then ⊥ else (Real.sqrt r : EReal) from rfl).trans (if_neg hr.not_gt)
    have e2 : Ideal.rsqrt (r : EReal) = (((Real.sqrt r)⁻¹ : ℝ) : EReal) :=
      (show Ideal.rsqrt (r : EReal) = if r < 0 then ⊥ else if r = 0 then ⊤ else (((Real.sqrt r)⁻¹ : ℝ) : EReal) from rfl).trans
        ((if_neg hr.not_gt).trans (if_neg hr.ne'))
    have h0 : ¬ ((Real.sqrt r : ℝ) : EReal) = 0 := fun h => hs (by exact_mod_cast h)
    rw [e1, e2, Ideal.div, if_neg h0, EReal.coe_inv]

/-- A mean of squares with the small constant added is positive. -/
theorem var_pos {n : ℕ} (f : Fin n → EReal) :
    0 < Ideal.div (∑ k, f k * f k) (Ideal.ofBits .f32 0x44800000#32) + Ideal.ofBits .f32 0x3727C5AC#32 := by
  rw [bits_1024, Ideal.div_coe (by norm_num : (1024 : ℝ) ≠ 0)]
  have h : (0 : EReal) ≤ (∑ k, f k * f k) * ((1 / 1024 : ℝ) : EReal) :=
    mul_nonneg (Finset.sum_nonneg fun k _ => sq_nonneg (f k)) (by exact_mod_cast (by norm_num : (0 : ℝ) ≤ 1 / 1024))
  exact lt_of_lt_of_le eps_pos (by simpa using add_le_add_left h _)

/-- So the two ways of scaling a centred row by its deviation agree. -/
theorem norm_eq {n : ℕ} (a : EReal) (f : Fin n → EReal) :
    Ideal.div a (Ideal.sqrt (Ideal.div (∑ k, f k * f k) (Ideal.ofBits .f32 0x44800000#32) + Ideal.ofBits .f32 0x3727C5AC#32))
      = a * Ideal.rsqrt (Ideal.div (∑ k, f k * f k) (Ideal.ofBits .f32 0x44800000#32) + Ideal.ofBits .f32 0x3727C5AC#32) :=
  div_sqrt a _ (var_pos f)

end Cert.Maths

end
-- ==== Proof.Qkv.Value.lean ====
module

public import proofs.«01_k».proof.Proof.Maths
public import proofs.«01_k».proof.Proof.Gen.QkvIdeal.Frame
public import proofs.«01_k».proof.Proof.Gen.QkvReferenceIdeal
public import Idealize.ShloMosaic.Lib.Pipeline.ValueKit
public import Idealize.ShloMosaic.Lib.Claim
/-! # The first call computes the normalized rows times the weights -/

@[expose] public section

set_option maxRecDepth 16384

noncomputable section

section
open Idealize.ShloMosaic Idealize.ShloMosaic.TcCoe Idealize.SL.Sem
namespace Cert.QkvReferenceIdeal.Term
open Cert.QkvReferenceIdeal Cert.QkvReferenceIdeal.Gen
/-- The reference's result as a term over its arguments. -/
def ref (X : FVec Ideal S2x2048x1024 .f32) (G B : FVec Ideal S1024 .f32) (W : FVec Ideal S3072x1024 .f32) (A : FVec Ideal S3072 .f32) :
    FVec Ideal S2x1152x3072 .bf16 :=
  truncf .bf16 (addf (Host.dotGeneral dot_S2x1152x1024_S1024x3072_S2x1152x3072_2_0_01_1_n_n none (addf (mulf (Host.divf (subf (extractStridedSlice S2x1152x1024 ![0, 0, 0] X
    slices_S2x2048x1024_S2x1152x1024_0_0_0) (broadcastInDim S2x1152x1024 ![0, 1, 2] bcast_S2x1152x1_S2x1152x1024_0_1_2 (Host.divf (broadcastInDim S2x1152x1 ![0, 1]
    bcast_S2x1152_S2x1152x1_0_1 (Host.reduceAdd (extractStridedSlice S2x1152x1024 ![0, 0, 0] X slices_S2x2048x1024_S2x1152x1024_0_0_0) (constant S_ .f32 0x00000000#32)
    reducesTo_S2x1152x1024_S2x1152_d2 h_S_)) (broadcastInDim S2x1152x1 ![] bcast_S_S2x1152x1 (constant S_ .f32 0x44800000#32))))) (broadcastInDim S2x1152x1024 ![0, 1, 2]
    bcast_S2x1152x1_S2x1152x1024_0_1_2 (Host.sqrt (addf (Host.divf (broadcastInDim S2x1152x1 ![0, 1] bcast_S2x1152_S2x1152x1_0_1 (Host.reduceAdd (mulf (subf (extractStridedSlice
    S2x1152x1024 ![0, 0, 0] X slices_S2x2048x1024_S2x1152x1024_0_0_0) (broadcastInDim S2x1152x1024 ![0, 1, 2] bcast_S2x1152x1_S2x1152x1024_0_1_2 (Host.divf (broadcastInDim
    S2x1152x1 ![0, 1] bcast_S2x1152_S2x1152x1_0_1 (Host.reduceAdd (extractStridedSlice S2x1152x1024 ![0, 0, 0] X slices_S2x2048x1024_S2x1152x1024_0_0_0) (constant S_ .f32
    0x00000000#32) reducesTo_S2x1152x1024_S2x1152_d2 h_S_)) (broadcastInDim S2x1152x1 ![] bcast_S_S2x1152x1 (constant S_ .f32 0x44800000#32))))) (subf (extractStridedSlice
    S2x1152x1024 ![0, 0, 0] X slices_S2x2048x1024_S2x1152x1024_0_0_0) (broadcastInDim S2x1152x1024 ![0, 1, 2] bcast_S2x1152x1_S2x1152x1024_0_1_2 (Host.divf (broadcastInDim
    S2x1152x1 ![0, 1] bcast_S2x1152_S2x1152x1_0_1 (Host.reduceAdd (extractStridedSlice S2x1152x1024 ![0, 0, 0] X slices_S2x2048x1024_S2x1152x1024_0_0_0) (constant S_ .f32
    0x00000000#32) reducesTo_S2x1152x1024_S2x1152_d2 h_S_)) (broadcastInDim S2x1152x1 ![] bcast_S_S2x1152x1 (constant S_ .f32 0x44800000#32)))))) (constant S_ .f32 0x00000000#32)
    reducesTo_S2x1152x1024_S2x1152_d2 h_S_)) (broadcastInDim S2x1152x1 ![] bcast_S_S2x1152x1 (constant S_ .f32 0x44800000#32))) (broadcastInDim S2x1152x1 ![] bcast_S_S2x1152x1
    (constant S_ .f32 0x3727C5AC#32)))))) (broadcastInDim S2x1152x1024 ![0, 1, 2] bcast_S1x1x1024_S2x1152x1024_0_1_2 (broadcastInDim S1x1x1024 ![2] bcast_S1024_S1x1x1024_2 G)))
    (broadcastInDim S2x1152x1024 ![0, 1, 2] bcast_S1x1x1024_S2x1152x1024_0_1_2 (broadcastInDim S1x1x1024 ![2] bcast_S1024_S1x1x1024_2 B))) (transpose S1024x3072 [1, 0] W
    transposes_S3072x1024_S1024x3072_1_0)) (broadcastInDim S2x1152x3072 ![0, 1, 2] bcast_S1x1x3072_S2x1152x3072_0_1_2 (broadcastInDim S1x1x3072 ![2] bcast_S3072_S1x1x3072_2 A)))
    bitsLt_bf16_f32
end Cert.QkvReferenceIdeal.Term
end

namespace Cert.QkvIdeal.Value

open Idealize.ShloMosaic Idealize.ShloMosaic.TcCoe Idealize.SL.Sem
open Idealize.ShloMosaic.Pipeline (Dat)
open Cert.QkvIdeal Cert.QkvIdeal.Gen

variable (m : (ℓ : Loc nD τ sig) → Buf (Elt Ideal) ℓ)

/-- The windows' block indices at every point. -/
theorem idx : ∀ t : Fin cfg0.N, win0_0.index t = ![(grid0.coords t 0).val, (grid0.coords t 1).val, 0] ∧ win0_1.index t = ![0, 0]
    ∧ win0_2.index t = ![0, 0] ∧ win0_3.index t = ![0, 0] ∧ win0_4.index t = ![0, 0]
    ∧ win0_5.index t = ![(grid0.coords t 0).val, (grid0.coords t 1).val, 0] ∧ (grid0.coords t 0).val < 2 ∧ (grid0.coords t 1).val < 3 :=
  (by decide +kernel : ∀ t : Fin grid0.N, _)

/-- What the body stores at an index of its block is the reference's result at the place the block has in the array. -/
theorem point (c : Dev nD) (t : Fin cfg0.N) (y) :
    k0_pay1 (k0_pay2 (X0_0 m c t) (iblk m c 1 t) (iblk m c 2 t) (iblk m c 3 t) (iblk m c 4 t)) y
      = Cert.QkvReferenceIdeal.Term.ref (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, k0_pay2, Cert.QkvReferenceIdeal.Term.ref]
  simp only [Cert.Maths.norm_eq]
  blk_point [iblk, V, idx t]
  all_goals
    unfold Pipeline.Window.fill
    refine (dif_pos (moved0_0 t _)).trans ?_
    blk_ext [iblk, V, idx t]

/-- The array after the run is the reference's result. -/
theorem final (c : Dev nD) : (dats m 0 c).arrAt 5 (cfgs 0).N
    = Cert.QkvReferenceIdeal.Term.ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; unfold outsAt0; frame_out
  exact point m c t y

end Cert.QkvIdeal.Value

end
-- ==== Proof.AttnIdeal.Heads.lean ====
module

public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
/-! # The attention of two neighbouring windows, head by head -/

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Sixty-four columns of a block of qkv rows, from column `o`. -/
theorem slices_head {o : ℕ} (h : o + 64 ≤ 3072) : S128x3072.Slices ![0, o] S128x64 :=
  ⟨rfl, fun a => by fin_cases a; · exact le_refl 128
                    · exact h⟩

/-- Sixty-four columns from column `o`. -/
def cols (q : FVec F S128x3072 .bf16) (o : ℕ) (h : o + 64 ≤ 3072) : FVec F S128x64 .bf16 :=
  extractStridedSlice S128x64 ![0, o] q (slices_head h)

/-- The product of queries and keys of head `h` over the 256 rows of a window, given as two blocks of 128. -/
def scores (qa qb : FVec F S128x3072 .bf16) (h : ℕ) (hh : h < 16) : FVec F S64x64 .f32 :=
  addf (matmul dot_S128x64_S128x64_S64x64_0_0_1_1_n_n none (cols qa (64 * h) (by omega)) (cols qa (1024 + 64 * h) (by omega)) (constant S64x64 .f32 0x00000000#32))
    (matmul dot_S128x64_S128x64_S64x64_0_0_1_1_n_n none (cols qb (64 * h) (by omega)) (cols qb (1024 + 64 * h) (by omega)) (constant S64x64 .f32 0x00000000#32))

/-- The weights of a head from its products: exponentials of the scaled products over their row sum. -/
def weights (s : FVec F S64x64 .f32) : FVec F S64x64 .bf16 :=
  truncf .bf16 (divf (exp (mulf s (broadcast S64x64 (Scalar.ofBits .f32 0x3E000000#32))))
    (broadcastTo S64x64 (shapeCast S64x1
      (multiReduction .add [1] S64 (exp (mulf s (broadcast S64x64 (Scalar.ofBits .f32 0x3E000000#32)))) 0x00000000#32 reduces_S64x64_S64 (.inl rfl) rfl)
      shapeCasts_S64_S64x1) broadcasts_S64x1_S64x64)) bitsLt_bf16_f32

/-- The weights against the values of head `h` of one block of 128 rows. -/
def mixed (p : FVec F S64x64 .bf16) (q : FVec F S128x3072 .bf16) (h : ℕ) (hh : h < 16) : FVec F S64x128 .bf16 :=
  truncf .bf16 (matmul dot_S64x64_S128x64_S64x128_1_1_0_0_n_n none p (cols q (2048 + 64 * h) (by omega)) (constant S64x128 .f32 0x00000000#32)) bitsLt_bf16_f32

/-- The first, or the second, 64 columns of a head's result on one block. -/
def leftHalf (o : FVec F S64x128 .bf16) : FVec F S64x64 .bf16 := extractStridedSlice S64x64 ![0, 0] o slices_S64x128_o0_0_S64x64
def rightHalf (o : FVec F S64x128 .bf16) : FVec F S64x64 .bf16 := extractStridedSlice S64x64 ![0, 64] o slices_S64x128_o0_64_S64x64

/-- The weights of head `h` of a window. -/
def headW (qa qb : FVec F S128x3072 .bf16) (h : Fin 16) : FVec F S64x64 .bf16 := weights (scores qa qb h.1 h.2)

/-- The four quarters of the sixteen heads, each quarter's heads side by side. -/
def pieces (qa qb : FVec F S128x3072 .bf16) : List ((s : Shape) × FVec F s .bf16) :=
  ((List.finRange 16).map fun h => ⟨S64x64, leftHalf (mixed (headW qa qb h) qa h.1 h.2)⟩)
  ++ ((List.finRange 16).map fun h => ⟨S64x64, rightHalf (mixed (headW qa qb h) qa h.1 h.2)⟩)
  ++ ((List.finRange 16).map fun h => ⟨S64x64, leftHalf (mixed (headW qa qb h) qb h.1 h.2)⟩)
  ++ ((List.finRange 16).map fun h => ⟨S64x64, rightHalf (mixed (headW qa qb h) qb h.1 h.2)⟩)

/-- They fill the 4096 columns. -/
theorem pieces_fit (qa qb : FVec F S128x3072 .bf16) : Shape.Concatenates ((pieces qa qb).map (·.1)) S64x4096 1 := by
  have : (pieces qa qb).map (·.1) = List.replicate 64 S64x64 := rfl
  rw [this]; decide +kernel

/-- The 256 rows of one window's attention. -/
def windowRows (qa qb : FVec F S128x3072 .bf16) : FVec F S256x1024 .bf16 :=
  shapeCast S256x1024 (concatenate S64x4096 1 (pieces qa qb) (pieces_fit qa qb)) shapeCasts_S64x4096_S256x1024

/-- The 512 rows of two windows sharing the middle block. -/
def attnRows (q0 q1 q2 : FVec F S128x3072 .bf16) : FVec F S512x1024 .bf16 :=
  concatenate S512x1024 0 [⟨S256x1024, windowRows q0 q1⟩, ⟨S256x1024, windowRows q1 q2⟩] concatenates_S256x1024_S256x1024_S512x1024_d0

end Cert.AttnIdeal.Gen

end
-- ==== Proof.Softmax.lean ====
module

public import proofs.«01_k».proof.Proof.Maths
/-! # Exponentials over their sum, with and without the largest one taken out -/

@[expose] public section

namespace Cert.Maths

open Idealize.ShloMosaic

/-- Being a real number. -/
def IsReal (x : EReal) : Prop := ∃ r : ℝ, x = (r : EReal)

theorem IsReal.mul {x y : EReal} : IsReal x → IsReal y → IsReal (x * y) := by
  rintro ⟨r, rfl⟩ ⟨s, rfl⟩; exact ⟨r * s, (EReal.coe_mul r s).symm⟩

theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, EReal.coe_add, ih]

theorem IsReal.sum {ι : Type} (s : Finset ι) (f : ι → EReal) (h : ∀ k, IsReal (f k)) : IsReal (∑ k ∈ s, f k) := by
  choose g hg using h
  exact ⟨∑ k ∈ s, g k, (Finset.sum_congr rfl fun k _ => hg k).trans (coe_sum s g)⟩

/-- The least number, as its bits. -/
theorem bits_bot : Ideal.ofBits .f32 0xFF800000#32 = ⊥ := by
  simp [Ideal.ofBits, Ideal.ieee]

/-- The scale is real. -/
theorem bits_scale : IsReal (Ideal.ofBits .f32 0x3E000000#32) := by
  refine ⟨1 / 8, ?_⟩
  simp [Ideal.ofBits, Ideal.ieee, -EReal.coe_mul]; norm_num

/-- The largest of some real numbers is real. -/
theorem max_real {n : ℕ} (s : Fin n → ℝ) (i : Fin n) : IsReal (Finset.univ.fold max (⊥ : EReal) fun k => (s k : EReal)) := by
  have h1 : (Finset.univ.fold max (⊥ : EReal) fun k => (s k : EReal)) ≠ ⊤ :=
    ((Finset.fold_max_lt _).2 ⟨bot_lt_top, fun k _ => EReal.coe_lt_top _⟩).ne
  have h2 : (Finset.univ.fold max (⊥ : EReal) fun k => (s k : EReal)) ≠ ⊥ :=
    ((Finset.lt_fold_max _).2 (Or.inr ⟨i, Finset.mem_univ i, EReal.bot_lt_coe _⟩)).ne'
  exact ⟨_, (EReal.coe_toReal h1 h2).symm⟩

/-- Taking any real number out of real exponents leaves the quotients. -/
theorem shift {n : ℕ} (s : Fin n → ℝ) (m : ℝ) (i : Fin n) :
    Ideal.div (Ideal.exp ((s i : EReal) - (m : EReal))) (∑ k, Ideal.exp ((s k : EReal) - (m : EReal)))
      = Ideal.div (Ideal.exp (s i : EReal)) (∑ k, Ideal.exp (s k : EReal)) := by
  have e : ∀ k, Ideal.exp ((s k : EReal) - (m : EReal)) = ((Real.exp (s k) / Real.exp m : ℝ) : EReal) := fun k => by
    rw [← EReal.coe_sub, Ideal.exp_coe, Real.exp_sub]
  simp only [e, Ideal.exp_coe]
  rw [coe_sum, coe_sum, ← Finset.sum_div]
  have hp : 0 < ∑ k, Real.exp (s k) := Finset.sum_pos (fun k _ => Real.exp_pos _) ⟨i, Finset.mem_univ i⟩
  have hm := Real.exp_pos m
  rw [Ideal.div_coe (div_pos hp hm).ne', Ideal.div_coe hp.ne', ← EReal.coe_mul, ← EReal.coe_mul]
  refine congrArg _ ?_
  field_simp

/-- In particular the largest exponent. -/
theorem softmax_eq {n : ℕ} (s : Fin n → EReal) (h : ∀ k, IsReal (s k)) (i : Fin n) :
    Ideal.div (Ideal.exp (s i - max ⊥ (Finset.univ.fold max ⊥ s))) (∑ k, Ideal.exp (s k - max ⊥ (Finset.univ.fold max ⊥ s)))
      = Ideal.div (Ideal.exp (s i)) (∑ k, Ideal.exp (s k)) := by
  choose r hr using h
  obtain rfl : s = fun k => (r k : EReal) := funext hr
  obtain ⟨m, hm⟩ := max_real r i
  rw [max_eq_right bot_le, hm]
  exact shift r m i

/-- A number whose absolute value is below infinity is real. -/
theorem real_of_abs_lt (x : EReal) (h : Ideal.cmp .olt (max x (-x)) (Ideal.ofBits .f32 0x7F800000#32) = 1#1) : IsReal x := by
  have hi : Ideal.ofBits .f32 0x7F800000#32 = ⊤ := by simp [Ideal.ofBits, Ideal.ieee]
  rw [hi] at h
  induction x using EReal.rec with
  | bot => simp [Ideal.cmp] at h
  | top => simp [Ideal.cmp] at h
  | coe r => exact ⟨r, rfl⟩

end Cert.Maths
-- ==== Proof.Window.lean ====
module

public import proofs.«01_k».proof.Proof.Softmax
/-! # The attention of one window, in numbers -/

@[expose] public section

noncomputable section

namespace Cert.Maths

open Idealize.ShloMosaic

/-- The scaled product of query column `d` and key column `e` of head `h` over the 256 rows of a window. -/
def score (q : Fin 256 → Fin 3072 → EReal) (h : Fin 16) (d e : Fin 64) : EReal :=
  (∑ n : Fin 256, q n ⟨64 * h.val + d.val, by omega⟩ * q n ⟨1024 + 64 * h.val + e.val, by omega⟩) * Ideal.ofBits .f32 0x3E000000#32

/-- Its softmax over the key columns. -/
def weight (q : Fin 256 → Fin 3072 → EReal) (h : Fin 16) (d e : Fin 64) : EReal :=
  Ideal.div (Ideal.exp (score q h d e)) (∑ k : Fin 64, Ideal.exp (score q h d k))

/-- The weights against the values of row `n`. -/
def att (q : Fin 256 → Fin 3072 → EReal) (h : Fin 16) (d : Fin 64) (n : Fin 256) : EReal :=
  ∑ e : Fin 64, weight q h d e * q n ⟨2048 + 64 * h.val + e.val, by omega⟩

/-- The window's result at row `r` and column `c`. -/
def rowAt (q : Fin 256 → Fin 3072 → EReal) (r : Fin 256) (c : Fin 1024) : EReal :=
  att q ⟨c.val / 64, by omega⟩ ⟨r.val / 4, by omega⟩ ⟨r.val % 4 * 64 + c.val % 64, by omega⟩

/-- The products of real numbers are real. -/
theorem score_real (q : Fin 256 → Fin 3072 → EReal) (hq : ∀ n j, IsReal (q n j)) (h : Fin 16) (d e : Fin 64) : IsReal (score q h d e) :=
  (IsReal.sum _ _ fun n => (hq n _).mul (hq n _)).mul bits_scale

end Cert.Maths

end
-- ==== Proof.AttnIdeal.Terms.lean ====
module

public import proofs.«01_k».proof.Proof.Window
public import proofs.«01_k».proof.Proof.Gen.AttnReferenceIdeal
public import Idealize.ShloMosaic.Lib.Pointwise
/-! # The reference's attention, as a term -/

@[expose] public section

set_option maxRecDepth 16384

noncomputable section

open Idealize.ShloMosaic Idealize.ShloMosaic.TcCoe Idealize.SL.Sem

namespace Cert.AttnReferenceIdeal.Term

open Cert.AttnReferenceIdeal Cert.AttnReferenceIdeal.Gen Cert.Maths

/-- The rows of each window. -/
def rowIdx : IVec S8x256x1 32 :=
  broadcastInDim S8x256x1 ![0, 1] bcast_S8x256_S8x256x1_0_1 (select (cmpi .slt (addi (broadcastInDim S8x256 ![0, 1] bcast_S8x1_S8x256_0_1 (muli
    (broadcastInDim S8x1 ![0] bcast_S8_S8x1_0 (iotaInDim S8 32 0)) (broadcastInDim S8x1 ![] bcast_S_S8x1 (constantI S_ 32 128#32)))) (broadcastInDim
    S8x256 ![0, 1] bcast_S1x256_S8x256_0_1 (broadcastInDim S1x256 ![1] bcast_S256_S1x256_1 (iotaInDim S256 32 0)))) (broadcastInDim S8x256 ![]
    bcast_S_S8x256 (constantI S_ 32 0#32))) (addi (addi (broadcastInDim S8x256 ![0, 1] bcast_S8x1_S8x256_0_1 (muli (broadcastInDim S8x1 ![0]
    bcast_S8_S8x1_0 (iotaInDim S8 32 0)) (broadcastInDim S8x1 ![] bcast_S_S8x1 (constantI S_ 32 128#32)))) (broadcastInDim S8x256 ![0, 1]
    bcast_S1x256_S8x256_0_1 (broadcastInDim S1x256 ![1] bcast_S256_S1x256_1 (iotaInDim S256 32 0)))) (broadcastInDim S8x256 ![] bcast_S_S8x256
    (constantI S_ 32 1152#32))) (addi (broadcastInDim S8x256 ![0, 1] bcast_S8x1_S8x256_0_1 (muli (broadcastInDim S8x1 ![0] bcast_S8_S8x1_0 (iotaInDim
    S8 32 0)) (broadcastInDim S8x1 ![] bcast_S_S8x1 (constantI S_ 32 128#32)))) (broadcastInDim S8x256 ![0, 1] bcast_S1x256_S8x256_0_1 (broadcastInDim
    S1x256 ![1] bcast_S256_S1x256_1 (iotaInDim S256 32 0)))))

/-- The queries, keys and values, by heads. -/
def qPart (Q : FVec Ideal S2x1152x3072 .bf16) : FVec Ideal S2x16x1152x64 .f32 :=
  shapeCast _ (extractStridedSlice S1x2x16x1152x64 ![0, 0, 0, 0, 0] (transpose S3x2x16x1152x64 [2, 0, 3, 1, 4] (shapeCast _ (extf .f32 Q
    bitsLt_bf16_f32) shapeCasts_S2x1152x3072_S2x1152x3x16x64) transposes_S2x1152x3x16x64_S3x2x16x1152x64_2_0_3_1_4)
    slices_S3x2x16x1152x64_S1x2x16x1152x64_0_0_0_0_0) shapeCasts_S1x2x16x1152x64_S2x16x1152x64
def kPart (Q : FVec Ideal S2x1152x3072 .bf16) : FVec Ideal S2x16x1152x64 .f32 :=
  shapeCast _ (extractStridedSlice S1x2x16x1152x64 ![1, 0, 0, 0, 0] (transpose S3x2x16x1152x64 [2, 0, 3, 1, 4] (shapeCast _ (extf .f32 Q
    bitsLt_bf16_f32) shapeCasts_S2x1152x3072_S2x1152x3x16x64) transposes_S2x1152x3x16x64_S3x2x16x1152x64_2_0_3_1_4)
    slices_S3x2x16x1152x64_S1x2x16x1152x64_1_0_0_0_0) shapeCasts_S1x2x16x1152x64_S2x16x1152x64
def vPart (Q : FVec Ideal S2x1152x3072 .bf16) : FVec Ideal S2x16x1152x64 .f32 :=
  shapeCast _ (extractStridedSlice S1x2x16x1152x64 ![2, 0, 0, 0, 0] (transpose S3x2x16x1152x64 [2, 0, 3, 1, 4] (shapeCast _ (extf .f32 Q
    bitsLt_bf16_f32) shapeCasts_S2x1152x3072_S2x1152x3x16x64) transposes_S2x1152x3x16x64_S3x2x16x1152x64_2_0_3_1_4)
    slices_S3x2x16x1152x64_S1x2x16x1152x64_2_0_0_0_0) shapeCasts_S1x2x16x1152x64_S2x16x1152x64

/-- One of them, cut into windows. -/
def wins (x : FVec Ideal S2x16x1152x64 .f32) : FVec Ideal S2x16x8x256x64 .f32 := Host.gather gather_S2x16x1152x64_S8x256x1_S2x16x8x256x64_014_2_n_n_2_2_216164 x rowIdx

/-- The scaled products. -/
def sc (Q : FVec Ideal S2x1152x3072 .bf16) : FVec Ideal S2x16x8x64x64 .f32 :=
  mulf (Host.dotGeneral dot_S2x16x8x64x256_S2x16x8x256x64_S2x16x8x64x64_4_3_3_4_012_012 none (transpose S2x16x8x64x256 [0, 1, 2, 4, 3] (wins (qPart
    Q)) transposes_S2x16x8x256x64_S2x16x8x64x256_0_1_2_4_3) (transpose S2x16x8x256x64 [0, 1, 2, 4, 3] (transpose S2x16x8x64x256 [0, 1, 2, 4, 3] (wins
    (kPart Q)) transposes_S2x16x8x256x64_S2x16x8x64x256_0_1_2_4_3) transposes_S2x16x8x64x256_S2x16x8x256x64_0_1_2_4_3)) (broadcastInDim S2x16x8x64x64
    ![] bcast_S_S2x16x8x64x64 (constant S_ .f32 0x3E000000#32))

/-- The largest of a row. -/
def top (s : FVec Ideal S2x16x8x64x64 .f32) : FVec Ideal S2x16x8x64 .f32 :=
  maximumf (broadcastInDim S2x16x8x64 ![] bcast_S_S2x16x8x64 (constant S_ .f32 0xFF800000#32))
    (Host.reduce FloatOps.maximumf s (constant S_ .f32 0xFF800000#32) reducesTo_S2x16x8x64x64_S2x16x8x64_d4 h_S_)

/-- The exponentials of a row with its largest taken out. -/
def exps (s : FVec Ideal S2x16x8x64x64 .f32) (t : FVec Ideal S2x16x8x64 .f32) : FVec Ideal S2x16x8x64x64 .f32 :=
  Host.exp (subf s (broadcastInDim S2x16x8x64x64 ![0, 1, 2, 3, 4] bcast_S2x16x8x64x1_S2x16x8x64x64_0_1_2_3_4 (broadcastInDim
    S2x16x8x64x1 ![0, 1, 2, 3] bcast_S2x16x8x64_S2x16x8x64x1_0_1_2_3 t)))

/-- A row over its sum. -/
def over (x : FVec Ideal S2x16x8x64x64 .f32) : FVec Ideal S2x16x8x64x64 .f32 :=
  Host.divf x (broadcastInDim S2x16x8x64x64 ![0, 1, 2, 3, 4] bcast_S2x16x8x64x1_S2x16x8x64x64_0_1_2_3_4 (broadcastInDim S2x16x8x64x1 ![0, 1, 2, 3]
    bcast_S2x16x8x64_S2x16x8x64x1_0_1_2_3 (Host.reduceAdd x (constant S_ .f32 0x00000000#32) reducesTo_S2x16x8x64x64_S2x16x8x64_d4 h_S_)))

/-- Their softmax. -/
def sm (Q : FVec Ideal S2x1152x3072 .bf16) : FVec Ideal S2x16x8x64x64 .f32 := over (exps (sc Q) (top (sc Q)))

/-- The softmax against the values. -/
def mix (Q : FVec Ideal S2x1152x3072 .bf16) : FVec Ideal S2x16x8x64x256 .f32 :=
  Host.dotGeneral dot_S2x16x8x64x64_S2x16x8x64x256_S2x16x8x64x256_4_3_3_4_012_012 none (sm Q) (transpose S2x16x8x64x256 [0, 1, 2, 4, 3] (wins (vPart
    Q)) transposes_S2x16x8x256x64_S2x16x8x64x256_0_1_2_4_3)

/-- The heads side by side. -/
def rows (Q : FVec Ideal S2x1152x3072 .bf16) : FVec Ideal S2x2048x1024 .f32 :=
  shapeCast _ (transpose S2x2048x16x64 [0, 2, 1, 3] (shapeCast _ (mix Q) shapeCasts_S2x16x8x64x256_S2x16x2048x64)
    transposes_S2x16x2048x64_S2x2048x16x64_0_2_1_3) shapeCasts_S2x2048x16x64_S2x2048x1024

/-- The reference's result as a term over its arguments. -/
def ref (Q : FVec Ideal S2x1152x3072 .bf16) (X : FVec Ideal S2x2048x1024 .f32) (W : FVec Ideal S1024x1024 .f32) (A : FVec Ideal S1024 .f32) :
    FVec Ideal S2x2048x1024 .f32 :=
  addf X (addf (Host.dotGeneral dot_S2x2048x1024_S1024x1024_S2x2048x1024_2_0_01_1_n_n none (rows Q) (transpose S1024x1024 [1, 0] W
    transposes_S1024x1024_S1024x1024_1_0)) (broadcastInDim S2x2048x1024 ![0, 1, 2] bcast_S1x1x1024_S2x2048x1024_0_1_2 (broadcastInDim S1x1x1024 ![2]
    bcast_S1024_S1x1x1024_2 A)))

end Cert.AttnReferenceIdeal.Term

end
-- ==== Proof.AttnIdeal.Take.lean ====
module

public import proofs.«01_k».proof.Proof.AttnIdeal.Terms
public import Idealize.ShloMosaic.Lib.Pointwise
/-! # A window's rows among all rows -/

@[expose] public section

set_option maxRecDepth 16384

noncomputable section

open Idealize.ShloMosaic Idealize.ShloMosaic.TcCoe Idealize.SL.Sem

namespace Cert.AttnReferenceIdeal.Term

open Cert.AttnReferenceIdeal Cert.AttnReferenceIdeal.Gen Cert.Maths

/-- The words that number the rows of the windows. -/
theorem word_row : ∀ (w : Fin 8) (n : Fin 256),
    (Scalar.select (Scalar.cmpi .slt (Scalar.addi (Scalar.muli (BitVec.ofNat 32 w.val) 128#32) (BitVec.ofNat 32 n.val)) 0#32)
      (Scalar.addi (Scalar.addi (Scalar.muli (BitVec.ofNat 32 w.val) 128#32) (BitVec.ofNat 32 n.val)) 1152#32)
      (Scalar.addi (Scalar.muli (BitVec.ofNat 32 w.val) 128#32) (BitVec.ofNat 32 n.val))).toInt.toNat = 128 * w.val + n.val := by
  decide +kernel

/-- The row number that a window reads at `n`. -/
theorem rowIdx_at (w : Fin 8) (n : Fin 256) (z : Fin 1) : (rowIdx (ix3 w n z)).toInt.toNat = 128 * w.val + n.val := by
  refine Eq.trans ?_ (word_row w n)
  pointwise [rowIdx]
  rfl

/-- A window's row. -/
theorem wins_at (x : FVec Ideal S2x16x1152x64 .f32) (b : Fin 2) (h : Fin 16) (w : Fin 8) (n : Fin 256) (d : Fin 64) :
    wins x (ix5 b h w n d) = x (ix4 b h ⟨128 * w.val + n.val, by omega⟩ d) := by
  have hr := rowIdx_at w n 0
  have h0 : ∀ a : Fin 4, a.val ≠ 2 → GatherDims.start gather_S2x16x1152x64_S8x256x1_S2x16x8x256x64_014_2_n_n_2_2_216164 (ix5 b h w n d) rowIdx a = 0 :=
    fun a ha => by
      unfold GatherDims.start
      exact dif_neg fun hm => ha (congrArg Fin.val (List.mem_singleton.mp hm))
  have h2 : ∀ l, GatherDims.start gather_S2x16x1152x64_S8x256x1_S2x16x8x256x64_014_2_n_n_2_2_216164 (ix5 b h w n d) rowIdx ⟨2, l⟩ = 128 * w.val + n.val := fun l => by
    unfold GatherDims.start
    refine (dif_pos (List.mem_singleton.mpr rfl)).trans ?_
    refine Eq.trans ?_ (Nat.min_eq_left (show 128 * w.val + n.val ≤ 1151 by omega))
    rw [← hr]
    refine congrArg (fun i => min (rowIdx i).toInt.toNat 1151) (funext fun a => Fin.ext ?_)
    match a with
    | ⟨0, _⟩ => rfl
    | ⟨1, _⟩ => rfl
    | ⟨2, _⟩ => rfl
  unfold wins Host.gather
  refine congrArg x (funext fun a => Fin.ext ?_)
  show GatherDims.start gather_S2x16x1152x64_S8x256x1_S2x16x8x256x64_014_2_n_n_2_2_216164 (ix5 b h w n d) rowIdx a
    + GatherDims.batchCoord gather_S2x16x1152x64_S8x256x1_S2x16x8x256x64_014_2_n_n_2_2_216164 (ix5 b h w n d) a
    + GatherDims.offCoord gather_S2x16x1152x64_S8x256x1_S2x16x8x256x64_014_2_n_n_2_2_216164 (ix5 b h w n d) a = _
  rw [GatherDims.batchCoord_eq_zero _ _ _ List.not_mem_nil, Nat.add_zero]
  match a with
  | ⟨0, l⟩ => rw [h0 ⟨0, l⟩ (show 0 ≠ 2 by decide), Nat.zero_add]; rfl
  | ⟨1, l⟩ => rw [h0 ⟨1, l⟩ (show 1 ≠ 2 by decide), Nat.zero_add]; rfl
  | ⟨2, l⟩ => rw [h2 l, GatherDims.offCoord_eq_zero _ _ _ (fun h => ((GatherDims.mem_sKept _ _).mp h).1 (List.mem_singleton.mpr rfl))]; rfl
  | ⟨3, l⟩ => rw [h0 ⟨3, l⟩ (show 3 ≠ 2 by decide), Nat.zero_add]; rfl

end Cert.AttnReferenceIdeal.Term

end
-- ==== Proof.AttnIdeal.Parts.lean ====
module

public import proofs.«01_k».proof.Proof.AttnIdeal.Take
public import Idealize.ShloMosaic.Lib.Pointwise
/-! # Queries, keys and values, by heads -/

@[expose] public section

set_option maxRecDepth 16384

noncomputable section

open Idealize.ShloMosaic Idealize.ShloMosaic.TcCoe Idealize.SL.Sem

namespace Cert.AttnReferenceIdeal.Term

open Cert.AttnReferenceIdeal Cert.AttnReferenceIdeal.Gen Cert.Maths

theorem qPart_at (Q : FVec Ideal S2x1152x3072 .bf16) (b : Fin 2) (h : Fin 16) (n : Fin 1152) (d : Fin 64) :
    qPart Q (ix4 b h n d) = Q (ix3 b n ⟨64 * h.val + d.val, by omega⟩) := by
  pointwise [qPart]
  exact congrArg (fun i => Q (ix3 b n i)) (Fin.ext (by simp; omega))
theorem kPart_at (Q : FVec Ideal S2x1152x3072 .bf16) (b : Fin 2) (h : Fin 16) (n : Fin 1152) (d : Fin 64) :
    kPart Q (ix4 b h n d) = Q (ix3 b n ⟨1024 + 64 * h.val + d.val, by omega⟩) := by
  pointwise [kPart]
  exact congrArg (fun i => Q (ix3 b n i)) (Fin.ext (by simp; omega))
theorem vPart_at (Q : FVec Ideal S2x1152x3072 .bf16) (b : Fin 2) (h : Fin 16) (n : Fin 1152) (d : Fin 64) :
    vPart Q (ix4 b h n d) = Q (ix3 b n ⟨2048 + 64 * h.val + d.val, by omega⟩) := by
  pointwise [vPart]
  exact congrArg (fun i => Q (ix3 b n i)) (Fin.ext (by simp; omega))

end Cert.AttnReferenceIdeal.Term

end
-- ==== Proof.AttnIdeal.Soft.lean ====
module

public import proofs.«01_k».proof.Proof.AttnIdeal.Terms
public import Idealize.ShloMosaic.Lib.Pointwise
/-! # The softmax of a row -/

@[expose] public section

set_option maxRecDepth 16384

noncomputable section

open Idealize.ShloMosaic Idealize.ShloMosaic.TcCoe Idealize.SL.Sem

namespace Cert.AttnReferenceIdeal.Term

open Cert.AttnReferenceIdeal Cert.AttnReferenceIdeal.Gen Cert.Maths

/-- The maximum over a row, as a fold. -/
theorem row_max (s : FVec Ideal S2x16x8x64x64 .f32) (b : Fin 2) (h : Fin 16) (w : Fin 8) (d : Fin 64) :
    Host.reduce FloatOps.maximumf s (constant S_ .f32 0xFF800000#32) reducesTo_S2x16x8x64x64_S2x16x8x64_d4 h_S_ (ix4 b h w d)
      = Finset.univ.fold FloatOps.maximumf (show Ideal .f32 from (⊥ : EReal)) fun k : Fin 64 => s (ix5 b h w d k) := by
  have hb : ∀ i, (constant S_ .f32 0xFF800000#32 : FVec Ideal S_ .f32) i = (⊥ : EReal) := fun _ => bits_bot
  have e := (Host.reduce_eq_fold FloatOps.maximumf s (constant S_ .f32 0xFF800000#32) reducesTo_S2x16x8x64x64_S2x16x8x64_d4 h_S_ (ix4 b h w d)).trans
    (Shape.ReducesTo.fold_fiber_r5_a4 _ _ _ _ _)
  rw [hb] at e
  exact e

/-- Taking the larger of a constant and a row's maximum. -/
theorem larger (c : FVec Ideal S_ .f32) (y : FVec Ideal S2x16x8x64 .f32) (j) :
    ∃ i, maximumf (broadcastInDim S2x16x8x64 ![] bcast_S_S2x16x8x64 c) y j = FloatOps.maximumf (c i) (y j) := ⟨_, rfl⟩

/-- The ideal maximum is the order's. -/
theorem fold_eq (f : Fin 64 → EReal) : FloatOps.maximumf (F := Ideal) (φ := .f32) (⊥ : EReal) (Finset.univ.fold (FloatOps.maximumf (F := Ideal) (φ := .f32)) (⊥ : EReal) f)
  = max ⊥ (Finset.univ.fold max (⊥ : EReal) f) := rfl

theorem top_at (s : FVec Ideal S2x16x8x64x64 .f32) (b : Fin 2) (h : Fin 16) (w : Fin 8) (d : Fin 64) :
    top s (ix4 b h w d) = max ⊥ (Finset.univ.fold max (⊥ : EReal) fun k : Fin 64 => s (ix5 b h w d k)) := by
  have hb : ∀ i, (constant S_ .f32 0xFF800000#32 : FVec Ideal S_ .f32) i = (⊥ : EReal) := fun _ => bits_bot
  obtain ⟨i, hi⟩ := larger (constant S_ .f32 0xFF800000#32)
    (Host.reduce FloatOps.maximumf s (constant S_ .f32 0xFF800000#32) reducesTo_S2x16x8x64x64_S2x16x8x64_d4 h_S_) (ix4 b h w d)
  unfold top
  rw [hi, hb, row_max]
  exact fold_eq _

theorem exps_at (s : FVec Ideal S2x16x8x64x64 .f32) (t : FVec Ideal S2x16x8x64 .f32) (b : Fin 2) (h : Fin 16) (w : Fin 8) (d e : Fin 64) :
    exps s t (ix5 b h w d e) = Ideal.exp ((show EReal from s (ix5 b h w d e)) - (show EReal from t (ix4 b h w d))) := by
  pointwise [exps]

theorem over_at (x : FVec Ideal S2x16x8x64x64 .f32) (b : Fin 2) (h : Fin 16) (w : Fin 8) (d e : Fin 64) :
    over x (ix5 b h w d e) = Ideal.div (x (ix5 b h w d e)) (∑ k : Fin 64, (show EReal from x (ix5 b h w d k))) := by
  pointwise [over]

/-- The reference's softmax of a row of real numbers is the quotient of its exponentials. -/
theorem soft_at (s : FVec Ideal S2x16x8x64x64 .f32) (b : Fin 2) (h : Fin 16) (w : Fin 8) (d e : Fin 64) (hs : ∀ k, IsReal (s (ix5 b h w d k))) :
    over (exps s (top s)) (ix5 b h w d e) = Ideal.div (Ideal.exp (s (ix5 b h w d e))) (∑ k : Fin 64, Ideal.exp (s (ix5 b h w d k))) := by
  rw [over_at]
  simp only [exps_at, top_at]
  exact softmax_eq (fun k => s (ix5 b h w d k)) hs e

end Cert.AttnReferenceIdeal.Term

end
-- ==== Proof.AttnIdeal.Scores.lean ====
module

public import proofs.«01_k».proof.Proof.AttnIdeal.Parts
public import proofs.«01_k».proof.Proof.AttnIdeal.Soft
public import Idealize.ShloMosaic.Lib.Pointwise
/-! # The reference's softmax and its product with the values -/

@[expose] public section

set_option maxRecDepth 16384

noncomputable section

open Idealize.ShloMosaic Idealize.ShloMosaic.TcCoe Idealize.SL.Sem

namespace Cert.AttnReferenceIdeal.Term

open Cert.AttnReferenceIdeal Cert.AttnReferenceIdeal.Gen Cert.Maths

/-- The rows of window `w` of batch `b`. -/
def win (Q : FVec Ideal S2x1152x3072 .bf16) (b : Fin 2) (w : Fin 8) : Fin 256 → Fin 3072 → EReal :=
  fun n j => Q (ix3 b ⟨128 * w.val + n.val, by omega⟩ j)

theorem sc_at (Q : FVec Ideal S2x1152x3072 .bf16) (b : Fin 2) (h : Fin 16) (w : Fin 8) (d e : Fin 64) :
    sc Q (ix5 b h w d e) = score (win Q b w) h d e := by
  pointwise [sc, wins_at, qPart_at, kPart_at]
  rfl

theorem sm_at (Q : FVec Ideal S2x1152x3072 .bf16) (hQ : ∀ i, IsReal (Q i)) (b : Fin 2) (h : Fin 16) (w : Fin 8) (d e : Fin 64) :
    sm Q (ix5 b h w d e) = weight (win Q b w) h d e := by
  unfold sm
  rw [soft_at (sc Q) b h w d e fun k => by rw [sc_at]; exact score_real _ (fun n j => hQ _) h d k]
  simp only [sc_at]
  rfl

theorem mix_at (Q : FVec Ideal S2x1152x3072 .bf16) (hQ : ∀ i, IsReal (Q i)) (b : Fin 2) (h : Fin 16) (w : Fin 8) (d : Fin 64) (n : Fin 256) :
    mix Q (ix5 b h w d n) = att (win Q b w) h d n := by
  pointwise [mix, wins_at, vPart_at]
  simp only [sm_at Q hQ]
  rfl

end Cert.AttnReferenceIdeal.Term

end
-- ==== Proof.AttnIdeal.Group.lean ====
module

public import proofs.«01_k».proof.Proof.AttnIdeal.Terms
public import Idealize.ShloMosaic.Lib.Pointwise
/-! # From windows and heads to rows -/

@[expose] public section

set_option maxRecDepth 16384

noncomputable section

open Idealize.ShloMosaic Idealize.ShloMosaic.TcCoe Idealize.SL.Sem

namespace Cert.AttnReferenceIdeal.Term

open Cert.AttnReferenceIdeal Cert.AttnReferenceIdeal.Gen Cert.Maths

/-- Head `h`'s rows are its results laid end to end, 64 numbers to a row. -/
theorem regroup (x : FVec Ideal S2x16x8x64x256 .f32) (b : Fin 2) (h : Fin 16) (l : Fin 2048) (k : Fin 64) :
    shapeCast S2x16x2048x64 x shapeCasts_S2x16x8x64x256_S2x16x2048x64 (ix4 b h l k)
      = x (ix5 b h ⟨l.val / 256, by omega⟩ ⟨l.val % 256 / 4, by omega⟩ ⟨l.val % 256 % 4 * 64 + k.val, by omega⟩) := by
  refine shapeCast_apply x _ _ _ ?_
  rw [Shape.rowMajor_val_five, Shape.rowMajor_val_four]
  show (((b.val * 16 + h.val) * 8 + l.val / 256) * 64 + l.val % 256 / 4) * 256 + (l.val % 256 % 4 * 64 + k.val)
    = ((b.val * 16 + h.val) * 2048 + l.val) * 64 + k.val
  omega

/-- The heads side by side, at a place. -/
theorem beside (x : FVec Ideal S2x16x2048x64 .f32) (b : Fin 2) (l : Fin 2048) (c : Fin 1024) :
    shapeCast S2x2048x1024 (transpose S2x2048x16x64 [0, 2, 1, 3] x transposes_S2x16x2048x64_S2x2048x16x64_0_2_1_3) shapeCasts_S2x2048x16x64_S2x2048x1024
      (ix3 b l c) = x (ix4 b ⟨c.val / 64, by omega⟩ l ⟨c.val % 64, by omega⟩) := by
  pointwise

end Cert.AttnReferenceIdeal.Term

end
-- ==== Proof.AttnIdeal.Reference.lean ====
module

public import proofs.«01_k».proof.Proof.AttnIdeal.Scores
public import proofs.«01_k».proof.Proof.AttnIdeal.Group
public import Idealize.ShloMosaic.Lib.Pointwise
/-! # The reference's attention, read at one place -/

@[expose] public section

set_option maxRecDepth 16384

noncomputable section

open Idealize.ShloMosaic Idealize.ShloMosaic.TcCoe Idealize.SL.Sem

namespace Cert.AttnReferenceIdeal.Term

open Cert.AttnReferenceIdeal Cert.AttnReferenceIdeal.Gen Cert.Maths

theorem rows_at (Q : FVec Ideal S2x1152x3072 .bf16) (hQ : ∀ i, IsReal (Q i)) (b : Fin 2) (l : Fin 2048) (c : Fin 1024) :
    rows Q (ix3 b l c) = rowAt (win Q b ⟨l.val / 256, by omega⟩) ⟨l.val % 256, by omega⟩ c := by
  unfold rows
  refine (beside _ b l c).trans ?_
  rw [regroup, mix_at Q hQ]
  rfl

/-- The projection, at a place. -/
theorem product_at (R : FVec Ideal S2x2048x1024 .f32) (W : FVec Ideal S1024x1024 .f32) (b : Fin 2) (l : Fin 2048) (o : Fin 1024) :
    Host.dotGeneral dot_S2x2048x1024_S1024x1024_S2x2048x1024_2_0_01_1_n_n none R (transpose S1024x1024 [1, 0] W transposes_S1024x1024_S1024x1024_1_0) (ix3 b l o)
      = ∑ k : Fin 1024, (show EReal from R (ix3 b l k)) * (show EReal from W (ix2 o k)) := by
  pointwise

theorem bias_at (A : FVec Ideal S1024 .f32) (b : Fin 2) (l : Fin 2048) (o : Fin 1024) :
    broadcastInDim S2x2048x1024 ![0, 1, 2] bcast_S1x1x1024_S2x2048x1024_0_1_2 (broadcastInDim S1x1x1024 ![2] bcast_S1024_S1x1x1024_2 A) (ix3 b l o)
      = A (ix1 o) := by
  pointwise

theorem plus_at (X Y Z : FVec Ideal S2x2048x1024 .f32) (j) : addf X (addf Y Z) j = (show EReal from X j) + ((show EReal from Y j) + (show EReal from Z j)) := rfl

/-- The reference at a place. -/
theorem ref_at (Q : FVec Ideal S2x1152x3072 .bf16) (hQ : ∀ i, IsReal (Q i)) (X : FVec Ideal S2x2048x1024 .f32) (W : FVec Ideal S1024x1024 .f32)
    (A : FVec Ideal S1024 .f32) (b : Fin 2) (l : Fin 2048) (o : Fin 1024) :
    ref Q X W A (ix3 b l o) = X (ix3 b l o)
      + (∑ k : Fin 1024, rowAt (win Q b ⟨l.val / 256, by omega⟩) ⟨l.val % 256, by omega⟩ k * W (ix2 o k) + A (ix1 o)) := by
  unfold ref
  refine (plus_at _ _ _ _).trans (congrArg (fun p : EReal => X (ix3 b l o) + p) (congrArg₂ (fun p q : EReal => p + q) ?_ (bias_at A b l o)))
  refine (product_at _ W b l o).trans (Finset.sum_congr rfl fun k _ => ?_)
  rw [rows_at Q hQ]

end Cert.AttnReferenceIdeal.Term

end
-- ==== Proof.AttnIdeal.Pure.lean ====
module

public import proofs.«01_k».proof.Proof.AttnIdeal.Heads
public import proofs.«01_k».proof.Proof.AttnIdeal.Reference
public import Idealize.ShloMosaic.Lib.Pointwise
public import Idealize.ShloMosaic.Lib.Pipeline.ValueKit
/-! # The kernel's block of attention is the reference's -/

@[expose] public section

set_option maxRecDepth 16384

noncomputable section

open Idealize.ShloMosaic Idealize.ShloMosaic.TcCoe Idealize.SL.Sem

namespace Cert.AttnIdeal.Pure

open Cert.AttnIdeal Cert.AttnIdeal.Gen
open Cert.Maths

/-- Sixty-four columns, at a place. -/
theorem cols_at (q : FVec Ideal S128x3072 .bf16) (o : ℕ) (ho : o + 64 ≤ 3072) (n : Fin 128) (d : Fin 64) :
    cols q o ho (ix2 n d) = q (ix2 n ⟨o + d.val, by omega⟩) := by
  refine congrArg q (funext fun a => Fin.ext ?_)
  match a with
  | ⟨0, _⟩ => exact Nat.zero_add _
  | ⟨1, _⟩ => rfl

/-- The two blocks of a window as its 256 rows. -/
def both (qa qb : FVec Ideal S128x3072 .bf16) : Fin 256 → Fin 3072 → EReal :=
  fun n j => if h : n.val < 128 then qa (ix2 ⟨n.val, h⟩ j) else qb (ix2 ⟨n.val - 128, by omega⟩ j)

theorem dot_at (a b : FVec Ideal S128x64 .bf16) (d e : Fin 64) :
    matmul dot_S128x64_S128x64_S64x64_0_0_1_1_n_n none a b (constant S64x64 .f32 0x00000000#32) (ix2 d e)
      = ∑ n : Fin 128, (show EReal from a (ix2 n d)) * (show EReal from b (ix2 n e)) := by
  pointwise

/-- A sum over the window's rows is a sum over each block's. -/
theorem sum_both (f : Fin 256 → EReal) : ∑ n : Fin 256, f n = ∑ n : Fin 128, f ⟨n.val, by omega⟩ + ∑ n : Fin 128, f ⟨128 + n.val, by omega⟩ :=
  Fin.sum_univ_two_halves 128 128 rfl f

theorem scores_at (qa qb : FVec Ideal S128x3072 .bf16) (h : Fin 16) (d e : Fin 64) :
    mulf (scores qa qb h.1 h.2) (broadcast S64x64 (Scalar.ofBits .f32 0x3E000000#32)) (ix2 d e) = score (both qa qb) h d e := by
  have e1 : scores qa qb h.1 h.2 (ix2 d e) = (∑ n : Fin 128, (show EReal from cols qa (64 * h.1) (by omega) (ix2 n d)) * (show EReal from cols qa (1024 + 64 * h.1) (by omega) (ix2 n e)))
      + ∑ n : Fin 128, (show EReal from cols qb (64 * h.1) (by omega) (ix2 n d)) * (show EReal from cols qb (1024 + 64 * h.1) (by omega) (ix2 n e)) :=
    congrArg₂ (fun a b : EReal => a + b) (dot_at _ _ d e) (dot_at _ _ d e)
  show scores qa qb h.1 h.2 (ix2 d e) * Ideal.ofBits .f32 0x3E000000#32 = _
  rw [e1]
  unfold score
  rw [sum_both]
  simp only [cols_at]
  refine congrArg₂ (· * ·) (congrArg₂ (· + ·) (Finset.sum_congr rfl fun n _ => ?_) (Finset.sum_congr rfl fun n _ => ?_)) rfl
  · unfold both
    rw [dif_pos n.isLt, dif_pos n.isLt]
  · unfold both
    rw [dif_neg (show ¬ 128 + n.val < 128 by omega), dif_neg (show ¬ 128 + n.val < 128 by omega)]
    have hn : (⟨128 + n.val - 128, by omega⟩ : Fin 128) = n := Fin.ext (Nat.add_sub_cancel_left _ _)
    simp only [hn]

theorem softmax_at (s : FVec Ideal S64x64 .f32) (d e : Fin 64) :
    weights s (ix2 d e) = Ideal.div (Ideal.exp (mulf s (broadcast S64x64 (Scalar.ofBits .f32 0x3E000000#32)) (ix2 d e)))
      (∑ k : Fin 64, Ideal.exp (mulf s (broadcast S64x64 (Scalar.ofBits .f32 0x3E000000#32)) (ix2 d k))) := by
  unfold weights
  generalize mulf s (broadcast S64x64 (Scalar.ofBits .f32 0x3E000000#32)) = x
  pointwise

theorem weights_at (qa qb : FVec Ideal S128x3072 .bf16) (h : Fin 16) (d e : Fin 64) :
    headW qa qb h (ix2 d e) = weight (both qa qb) h d e := by
  unfold headW
  rw [softmax_at]
  simp only [scores_at]
  rfl

theorem mixed_at (p : FVec Ideal S64x64 .bf16) (q : FVec Ideal S128x3072 .bf16) (h : Fin 16) (d : Fin 64) (n : Fin 128) :
    mixed p q h.1 h.2 (ix2 d n) = ∑ e : Fin 64, (show EReal from p (ix2 d e)) * (show EReal from q (ix2 n ⟨2048 + 64 * h.val + e.val, by omega⟩)) := by
  have hc := fun e : Fin 64 => cols_at q (2048 + 64 * h.1) (by omega) n e
  unfold mixed
  generalize cols q (2048 + 64 * h.1) (by omega) = x at hc ⊢
  simp only [← hc]
  pointwise

/-- Quarter `k / 16` of head `k % 16`. -/
def piece (qa qb : FVec Ideal S128x3072 .bf16) (k : Fin 64) : FVec Ideal S64x64 .bf16 :=
  let h : Fin 16 := ⟨k.val % 16, by omega⟩
  let o := mixed (headW qa qb h) (if k.val / 16 < 2 then qa else qb) h.1 h.2
  if k.val / 16 % 2 = 0 then leftHalf o else rightHalf o

theorem pieces_eq (qa qb : FVec Ideal S128x3072 .bf16) :
    pieces qa qb = List.ofFn fun k : Fin 64 => (⟨S64x64, piece qa qb k⟩ : (s : Shape) × FVec Ideal s .bf16) := rfl

theorem piece_at (qa qb : FVec Ideal S128x3072 .bf16) (k : Fin 64) (d e : Fin 64) :
    piece qa qb k (ix2 d e) = att (both qa qb) ⟨k.val % 16, by omega⟩ d ⟨64 * (k.val / 16) + e.val, by omega⟩ := by
  have key : ∀ (q : FVec Ideal S128x3072 .bf16) (n : Fin 128) (n' : Fin 256), (∀ j, q (ix2 n j) = both qa qb n' j) → ∀ h : Fin 16,
      mixed (headW qa qb h) q h.1 h.2 (ix2 d n) = att (both qa qb) h d n' := fun q n n' hn h => by
    rw [mixed_at]
    exact Finset.sum_congr rfl fun e _ => congrArg₂ (· * ·) (weights_at qa qb h d e) (hn _)
  have lh : ∀ x : FVec Ideal S64x128 .bf16, leftHalf x (ix2 d e) = x (ix2 d ⟨e.val, by omega⟩) := fun x => by pointwise [leftHalf]
  have rh : ∀ x : FVec Ideal S64x128 .bf16, rightHalf x (ix2 d e) = x (ix2 d ⟨64 + e.val, by omega⟩) := fun x => by pointwise [rightHalf]
  have hk : k.val / 16 < 4 := by omega
  unfold piece
  by_cases h1 : k.val / 16 < 2 <;> by_cases h2 : k.val / 16 % 2 = 0
  all_goals
    simp only [h1, h2, if_true, if_false, lh, rh]
    refine key _ _ _ (fun j => ?_) _
    unfold both
  · rw [dif_pos (show 64 * (k.val / 16) + e.val < 128 by omega)]
    exact congrArg (fun i => qa (ix2 i j)) (Fin.ext (by show e.val = 64 * (k.val / 16) + e.val; omega))
  · rw [dif_pos (show 64 * (k.val / 16) + e.val < 128 by omega)]
    exact congrArg (fun i => qa (ix2 i j)) (Fin.ext (by show 64 + e.val = 64 * (k.val / 16) + e.val; omega))
  · rw [dif_neg (show ¬ 64 * (k.val / 16) + e.val < 128 by omega)]
    exact congrArg (fun i => qb (ix2 i j)) (Fin.ext (by show e.val = 64 * (k.val / 16) + e.val - 128; omega))
  · rw [dif_neg (show ¬ 64 * (k.val / 16) + e.val < 128 by omega)]
    exact congrArg (fun i => qb (ix2 i j)) (Fin.ext (by show 64 + e.val = 64 * (k.val / 16) + e.val - 128; omega))

theorem windowRows_at (qa qb : FVec Ideal S128x3072 .bf16) (r : Fin 256) (c : Fin 1024) :
    windowRows qa qb (ix2 r c) = rowAt (both qa qb) r c := by
  unfold windowRows
  refine (shapeCast_apply _ _ _ (ix2 (⟨r.val / 4, by omega⟩ : Fin 64) (⟨r.val % 4 * 1024 + c.val, by omega⟩ : Fin 4096)) ?_).trans ?_
  · rw [Shape.rowMajor_val_two, Shape.rowMajor_val_two]
    show r.val / 4 * 4096 + (r.val % 4 * 1024 + c.val) = r.val * 1024 + c.val
    omega
  · refine (concatenate_ofFn_apply (t := S64x4096) (s₁ := S64x64) 1 (piece qa qb) (pieces_fit qa qb) rfl 64 rfl _
      ⟨r.val % 4 * 16 + c.val / 64, by omega⟩ ?_ (ix2 (⟨r.val / 4, by omega⟩ : Fin 64) (⟨c.val % 64, by omega⟩ : Fin 64)) ?_ ?_).trans ?_
    · show (r.val % 4 * 1024 + c.val) / 64 = r.val % 4 * 16 + c.val / 64
      omega
    · show c.val % 64 = (r.val % 4 * 1024 + c.val) % 64
      omega
    · intro b hb
      match b with
      | ⟨0, _⟩ => rfl
      | ⟨1, _⟩ => exact absurd rfl hb
    · rw [piece_at]
      unfold rowAt
      congr 1
      · exact Fin.ext (by show (r.val % 4 * 16 + c.val / 64) % 16 = c.val / 64; omega)
      · exact Fin.ext (by show 64 * ((r.val % 4 * 16 + c.val / 64) / 16) + c.val % 64 = r.val % 4 * 64 + c.val % 64; omega)

theorem attnRows_at (q0 q1 q2 : FVec Ideal S128x3072 .bf16) (r : Fin 512) (c : Fin 1024) :
    attnRows q0 q1 q2 (ix2 r c) = if h : r.val < 256 then rowAt (both q0 q1) ⟨r.val, h⟩ c else rowAt (both q1 q2) ⟨r.val - 256, by omega⟩ c := by
  have e : attnRows q0 q1 q2 (ix2 r c) = if h : r.val < 256 then windowRows q0 q1 (ix2 ⟨r.val, h⟩ c) else windowRows q1 q2 (ix2 ⟨r.val - 256, by omega⟩ c) := by
    unfold attnRows
    generalize windowRows q0 q1 = x
    generalize windowRows q1 q2 = y
    pointwise
  rw [e]
  simp only [windowRows_at]

/-- The block's result at a place. -/
theorem out_at (p : FVec Ideal S512x1024 .bf16) (x : Vec Ideal S1x512x1024 .f32) (w : Vec Ideal S1024x1024 .bf16) (b : Vec Ideal S1x1024 .f32)
    (z : Fin 1) (r : Fin 512) (o : Fin 1024) : k0_pay1 p x w b (ix3 z r o)
      = (show EReal from x (ix3 0 r o)) + ∑ k : Fin 1024, (show EReal from p (ix2 r k)) * (show EReal from w (ix2 o k)) + (show EReal from b (ix2 0 o)) := by
  pointwise [k0_pay1]

theorem block_at (q : Vec Ideal S1x128x3072 .bf16) (n : Fin 128) (j : Fin 3072) : k0_pay2 q (ix2 n j) = q (ix3 0 n j) := by
  pointwise [k0_pay2]

open Cert.AttnReferenceIdeal.Term in
/-- Two neighbouring blocks of the rows are a window of the reference. -/
theorem both_eq (Q : FVec Ideal Cert.AttnReferenceIdeal.S2x1152x3072 .bf16) (s : Fin 2) (w : Fin 8) (qa qb : Vec Ideal S1x128x3072 .bf16)
    (ha : ∀ (n : Fin 128) (j : Fin 3072), qa (ix3 0 n j) = Q (ix3 s ⟨128 * w.val + n.val, by omega⟩ j))
    (hb : ∀ (n : Fin 128) (j : Fin 3072), qb (ix3 0 n j) = Q (ix3 s ⟨128 * w.val + 128 + n.val, by omega⟩ j)) :
    both (k0_pay2 qa) (k0_pay2 qb) = win Q s w := by
  funext n j
  unfold both win
  by_cases h : n.val < 128
  · rw [dif_pos h, block_at, ha]
  · rw [dif_neg h, block_at, hb]
    exact congrArg (fun i => Q (ix3 s i j)) (Fin.ext (by show 128 * w.val + 128 + (n.val - 128) = 128 * w.val + n.val; omega))

open Cert.AttnReferenceIdeal.Term in
/-- Block `i` of batch `s`: what the kernel computes there is the reference's result there. -/
theorem attn_at (Q : FVec Ideal Cert.AttnReferenceIdeal.S2x1152x3072 .bf16) (hQ : ∀ i, IsReal (Q i)) (X : FVec Ideal S2x2048x1024 .f32) (W : FVec Ideal S1024x1024 .f32)
    (A : FVec Ideal S1024 .f32) (s : Fin 2) (i : ℕ) (hi : i < 4) (q0 q1 q2 : Vec Ideal S1x128x3072 .bf16) (x : Vec Ideal S1x512x1024 .f32)
    (w : Vec Ideal S1024x1024 .bf16) (b : Vec Ideal S1x1024 .f32)
    (h0 : ∀ (n : Fin 128) (j : Fin 3072), q0 (ix3 0 n j) = Q (ix3 s ⟨i * 256 + n.val, by omega⟩ j))
    (h1 : ∀ (n : Fin 128) (j : Fin 3072), q1 (ix3 0 n j) = Q (ix3 s ⟨i * 256 + 128 + n.val, by omega⟩ j))
    (h2 : ∀ (n : Fin 128) (j : Fin 3072), q2 (ix3 0 n j) = Q (ix3 s ⟨i * 256 + 256 + n.val, by omega⟩ j))
    (hx : ∀ (r : Fin 512) (k : Fin 1024), x (ix3 0 r k) = X (ix3 s ⟨i * 512 + r.val, by omega⟩ k))
    (hw : ∀ o k : Fin 1024, w (ix2 o k) = W (ix2 o k)) (hb : ∀ k : Fin 1024, b (ix2 0 k) = A (ix1 k))
    (z : Fin 1) (r : Fin 512) (o : Fin 1024) :
    k0_pay1 (attnRows (k0_pay2 q0) (k0_pay2 q1) (k0_pay2 q2)) x w b (ix3 z r o) = ref Q X W A (ix3 s ⟨i * 512 + r.val, by omega⟩ o) := by
  have row : ∀ k : Fin 1024, attnRows (k0_pay2 q0) (k0_pay2 q1) (k0_pay2 q2) (ix2 r k)
      = rowAt (win Q s ⟨(i * 512 + r.val) / 256, by omega⟩) ⟨(i * 512 + r.val) % 256, by omega⟩ k := fun k => by
    rw [attnRows_at]
    by_cases h : r.val < 256
    · rw [dif_pos h, both_eq Q s ⟨2 * i, by omega⟩ q0 q1 (fun n j => (h0 n j).trans (congrArg (fun a => Q (ix3 s a j)) (Fin.ext (by show i * 256 + n.val = 128 * (2 * i) + n.val; omega))))
        (fun n j => (h1 n j).trans (congrArg (fun a => Q (ix3 s a j)) (Fin.ext (by show i * 256 + 128 + n.val = 128 * (2 * i) + 128 + n.val; omega))))]
      congr 2
      · exact Fin.ext (by show 2 * i = (i * 512 + r.val) / 256; omega)
      · exact (by omega : r.val = (i * 512 + r.val) % 256)
    · rw [dif_neg h, both_eq Q s ⟨2 * i + 1, by omega⟩ q1 q2 (fun n j => (h1 n j).trans (congrArg (fun a => Q (ix3 s a j)) (Fin.ext (by show i * 256 + 128 + n.val = 128 * (2 * i + 1) + n.val; omega))))
        (fun n j => (h2 n j).trans (congrArg (fun a => Q (ix3 s a j)) (Fin.ext (by show i * 256 + 256 + n.val = 128 * (2 * i + 1) + 128 + n.val; omega))))]
      congr 2
      · exact Fin.ext (by show 2 * i + 1 = (i * 512 + r.val) / 256; omega)
      · exact (by omega : r.val - 256 = (i * 512 + r.val) % 256)
  rw [out_at, ref_at Q hQ, add_assoc]
  refine congrArg₂ (· + ·) (hx r o) (congrArg₂ (· + ·) (Finset.sum_congr rfl fun k _ => congrArg₂ (· * ·) (row k) (hw o k)) (hb o))

end Cert.AttnIdeal.Pure

end
-- ==== Proof.AttnIdeal.Value.lean ====
module

public import proofs.«01_k».proof.Proof.AttnIdeal.Pure
public import proofs.«01_k».proof.Proof.Gen.AttnIdeal.Frame
public import Idealize.ShloMosaic.Lib.Pipeline.ValueKit
public import Idealize.ShloMosaic.Lib.Claim
/-! # The second call computes the windowed attention and its projection -/

@[expose] public section

set_option maxRecDepth 16384

noncomputable section

namespace Cert.AttnIdeal.Value

open Idealize.ShloMosaic Idealize.ShloMosaic.TcCoe Idealize.SL.Sem
open Idealize.ShloMosaic.Pipeline (Dat)
open Cert.AttnIdeal Cert.AttnIdeal.Gen Cert.Maths

variable (m : (ℓ : Loc nD τ sig) → Buf (Elt Ideal) ℓ)

/-- The windows' block indices at every point. -/
theorem idx : ∀ t : Fin cfg0.N, win0_0.index t = ![(grid0.coords t 0).val, (grid0.coords t 1).val * 2, 0]
    ∧ win0_1.index t = ![(grid0.coords t 0).val, (grid0.coords t 1).val * 2 + 1, 0]
    ∧ win0_2.index t = ![(grid0.coords t 0).val, (grid0.coords t 1).val * 2 + 2, 0]
    ∧ win0_3.index t = ![(grid0.coords t 0).val, (grid0.coords t 1).val, 0]
    ∧ win0_4.index t = ![0, 0] ∧ win0_5.index t = ![0, 0]
    ∧ win0_6.index t = ![(grid0.coords t 0).val, (grid0.coords t 1).val, 0] ∧ (grid0.coords t 0).val < 2 ∧ (grid0.coords t 1).val < 4 :=
  (by decide +kernel : ∀ t : Fin grid0.N, _)

/-- What the body stores at an index of its block is the reference's result at the place the block has in the array. -/
theorem point (c : Dev nD) (hQ : ∀ i, IsReal (m ((c : Thread nD τ).loc main_arg0) i)) (t : Fin cfg0.N) (y) :
    k0_pay1 (attnRows (k0_pay2 (iblk m c 0 t)) (k0_pay2 (iblk m c 1 t)) (k0_pay2 (iblk m c 2 t))) (iblk m c 3 t) (iblk m c 4 t) (iblk m c 5 t) y
      = Cert.AttnReferenceIdeal.Term.ref (m ((c : Thread nD τ).loc main_arg0)) (m ((c : Thread nD τ).loc main_arg1)) (m ((c : Thread nD τ).loc main_arg2))
        (m ((c : Thread nD τ).loc main_arg3)) (((cfg0.win 6).blk t).view.emb y) := by
  obtain ⟨i0, i1, i2, i3, i4, i5, i6, hs, hn⟩ := idx t
  rw [eq_ix3 y]
  refine (Cert.AttnIdeal.Pure.attn_at (m ((c : Thread nD τ).loc main_arg0)) hQ (m ((c : Thread nD τ).loc main_arg1)) (m ((c : Thread nD τ).loc main_arg2))
        (m ((c : Thread nD τ).loc main_arg3)) ⟨_, hs⟩ _ hn _ _ _ _ _ _ ?_ ?_ ?_ ?_ ?_ ?_ _ _ _).trans ?_
  rotate_right
  · refine congrArg _ ?_
    blk_ext [idx t]
  all_goals
    intros
    blk_point [iblk, V, idx t]

set_option maxHeartbeats 1000000 in
/-- The body's stored value is the projection of the attention of its two windows. -/
theorem out_eq {F : FTy → Type} [FloatOps F] (x0 x1 x2 : Vec F S1x128x3072 .bf16) (x3 : Vec F S1x512x1024 .f32) (x4 : Vec F S1024x1024 .bf16) (x5 : Vec F S1x1024 .f32) :
    out0_6 x0 x1 x2 x3 x4 x5 = View.canon [⟨r0_1, k0_pay1 (attnRows (k0_pay2 (View.ld x0 r0_0)) (k0_pay2 (View.ld x1 r0_0)) (k0_pay2 (View.ld x2 r0_0)))
      (View.ld x3 r0_1) (View.ld x4 r0_2) (View.ld x5 r0_3)⟩] := rfl

/-- The array after the run is the reference's result. -/
theorem final (c : Dev nD) (hQ : ∀ i, IsReal (m ((c : Thread nD τ).loc main_arg0) i)) : (dats m 0 c).arrAt 6 (cfgs 0).N
    = Cert.AttnReferenceIdeal.Term.ref (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6, out_eq]; frame_out
  exact point m c hQ t y

end Cert.AttnIdeal.Value

end
-- ==== Proof.AttnIdeal.Claims.lean ====
module

public import proofs.«01_k».proof.Defs
public import proofs.«01_k».proof.Proof.AttnIdeal.Value
public import proofs.«01_k».proof.Proof.Gen.Pre_attn_finite
public import Idealize.ShloMosaic.Lib.Claim
public import Idealize.ShloMosaic.Lib.ReduceAll
public import Idealize.ShloMosaic.Adequacy
public import Idealize.ShloMosaic.Init
/-! # What is claimed of the second call -/

@[expose] public section

noncomputable section

namespace Cert.AttnIdeal.Claims

open Idealize.ShloMosaic Idealize.ShloMosaic.TcCoe Idealize.SL.Sem Cert.Maths

/-- The reference ends with its arguments unchanged; it declares no semaphore. -/
theorem referenceFrame : Cert.quiescent_AttnReferenceIdeal := fun m g _ => by
  hlo_run
  all_goals first
    | exact fun _ => ⟨trivial, trivial, trivial, trivial⟩
    | exact sem_eq_zero_of_no_sems (sig := Cert.AttnReferenceIdeal.sig) rfl _

/-- An array whose absolute values are all below infinity is of real numbers. -/
theorem all_real (Q : FVec Ideal Cert.Pre_attn_finite.S2x1152x3072 .bf16) (X : FVec Ideal Cert.Pre_attn_finite.S2x2048x1024 .f32)
    (W : FVec Ideal Cert.Pre_attn_finite.S1024x1024 .f32) (A : FVec Ideal Cert.Pre_attn_finite.S1024 .f32)
    (h : Cert.Pre_attn_finite.fn Q X W A = fun _ => 1#1) (i) : IsReal (Q i) := by
  have hs : Subsingleton Cert.Pre_attn_finite.S_.Idx := ⟨fun a b => funext fun k => k.elim0⟩
  refine real_of_abs_lt (Q i) (Host.reduce_andi_all _ _ _ _ (fun k => k.elim0) (congrFun h fun k => k.elim0) i)

/-- The second call's value, where the q, k, v array is of real numbers. -/
theorem value : Cert.algebraic_AttnIdeal_AttnReferenceIdeal_pre_attn_finite := by
  pair_intro
  · run_from Cert.AttnIdeal.Gen.run_main m g
  · hlo_run
    exact (Cert.AttnIdeal.Value.final m c fun i => all_real _ _ _ _ (hpre c) i).symm

end Cert.AttnIdeal.Claims

end
-- ==== Proof.ConvIdeal.Pure.lean ====
module

public import proofs.«01_k».proof.Proof.Maths
public import proofs.«01_k».proof.Proof.Gen.ConvIdeal.Skeleton
public import proofs.«01_k».proof.Proof.Gen.ConvReferenceIdeal
public import Idealize.ShloMosaic.Lib.Pointwise
/-! # The convolution, read at one place, on the kernel's side and on the reference's -/

@[expose] public section

set_option maxRecDepth 16384

noncomputable section

open Idealize.ShloMosaic

namespace Cert.Maths

/-- The mean of a row. -/
def rowMean (x : Fin 1024 → EReal) : EReal := Ideal.div (∑ j, x j) (Ideal.ofBits .f32 0x44800000#32)

/-- A row at `k`, centred, divided by its deviation, weighted and shifted. -/
def normRow (x : Fin 1024 → EReal) (g b : EReal) (k : Fin 1024) : EReal :=
  (x k - rowMean x)
    * Ideal.rsqrt (Ideal.div (∑ j, (x j - rowMean x) * (x j - rowMean x)) (Ideal.ofBits .f32 0x44800000#32) + Ideal.ofBits .f32 0x3727C5AC#32) * g + b

end Cert.Maths

section
open Idealize.ShloMosaic Idealize.ShloMosaic.TcCoe Idealize.SL.Sem
namespace Cert.ConvReferenceIdeal.Term
open Cert.ConvReferenceIdeal Cert.ConvReferenceIdeal.Gen Cert.Maths

/-- The reference's normalised rows. -/
def ln (H : FVec Ideal S2x2048x1024 .f32) (G B : FVec Ideal S1024 .f32) : FVec Ideal S2x2048x1024 .f32 :=
  addf (mulf (Host.divf (subf H (broadcastInDim S2x2048x1024 ![0, 1, 2] bcast_S2x2048x1_S2x2048x1024_0_1_2 (Host.divf (broadcastInDim S2x2048x1 ![0,
    1] bcast_S2x2048_S2x2048x1_0_1 (Host.reduceAdd H (constant S_ .f32 0x00000000#32) reducesTo_S2x2048x1024_S2x2048_d2 h_S_)) (broadcastInDim
    S2x2048x1 ![] bcast_S_S2x2048x1 (constant S_ .f32 0x44800000#32))))) (broadcastInDim S2x2048x1024 ![0, 1, 2] bcast_S2x2048x1_S2x2048x1024_0_1_2
    (Host.sqrt (addf (Host.divf (broadcastInDim S2x2048x1 ![0, 1] bcast_S2x2048_S2x2048x1_0_1 (Host.reduceAdd (mulf (subf H (broadcastInDim
    S2x2048x1024 ![0, 1, 2] bcast_S2x2048x1_S2x2048x1024_0_1_2 (Host.divf (broadcastInDim S2x2048x1 ![0, 1] bcast_S2x2048_S2x2048x1_0_1
    (Host.reduceAdd H (constant S_ .f32 0x00000000#32) reducesTo_S2x2048x1024_S2x2048_d2 h_S_)) (broadcastInDim S2x2048x1 ![] bcast_S_S2x2048x1
    (constant S_ .f32 0x44800000#32))))) (subf H (broadcastInDim S2x2048x1024 ![0, 1, 2] bcast_S2x2048x1_S2x2048x1024_0_1_2 (Host.divf (broadcastInDim
    S2x2048x1 ![0, 1] bcast_S2x2048_S2x2048x1_0_1 (Host.reduceAdd H (constant S_ .f32 0x00000000#32) reducesTo_S2x2048x1024_S2x2048_d2 h_S_))
    (broadcastInDim S2x2048x1 ![] bcast_S_S2x2048x1 (constant S_ .f32 0x44800000#32)))))) (constant S_ .f32 0x00000000#32)
    reducesTo_S2x2048x1024_S2x2048_d2 h_S_)) (broadcastInDim S2x2048x1 ![] bcast_S_S2x2048x1 (constant S_ .f32 0x44800000#32))) (broadcastInDim
    S2x2048x1 ![] bcast_S_S2x2048x1 (constant S_ .f32 0x3727C5AC#32)))))) (broadcastInDim S2x2048x1024 ![0, 1, 2] bcast_S1x1x1024_S2x2048x1024_0_1_2
    (broadcastInDim S1x1x1024 ![2] bcast_S1024_S1x1x1024_2 G))) (broadcastInDim S2x2048x1024 ![0, 1, 2] bcast_S1x1x1024_S2x2048x1024_0_1_2
    (broadcastInDim S1x1x1024 ![2] bcast_S1024_S1x1x1024_2 B))

/-- The reference's result as a term over its arguments. -/
def ref (H : FVec Ideal S2x2048x1024 .f32) (G B : FVec Ideal S1024 .f32) (W : FVec Ideal S1024x1024x3 .f32) (A : FVec Ideal S1024 .f32) :
    FVec Ideal S2x2048x1024 .f32 :=
  addf H (addf (addf (addf (Host.dotGeneral dot_S2x2048x1024_S1024x1024_S2x2048x1024_2_0_01_1_n_n none (extractStridedSlice S2x2048x1024 ![0, 0, 0]
    (pad S2x2052x1024 ![0, 2, 0] ![0, 2, 0] ![0, 0, 0] (ln H G B) (sitofp .f32 (constantI S_ 32 0#32)) pads_S2x2048x1024_S2x2052x1024_000_220_000
    h_S_) slices_S2x2052x1024_S2x2048x1024_0_0_0) (transpose S1024x1024 [1, 0] (shapeCast _ (extractStridedSlice S1024x1024x1 ![0, 0, 0] W
    slices_S1024x1024x3_S1024x1024x1_0_0_0) shapeCasts_S1024x1024x1_S1024x1024) transposes_S1024x1024_S1024x1024_1_0)) (Host.dotGeneral
    dot_S2x2048x1024_S1024x1024_S2x2048x1024_2_0_01_1_n_n none (extractStridedSlice S2x2048x1024 ![0, 2, 0] (pad S2x2052x1024 ![0, 2, 0] ![0, 2, 0]
    ![0, 0, 0] (ln H G B) (sitofp .f32 (constantI S_ 32 0#32)) pads_S2x2048x1024_S2x2052x1024_000_220_000 h_S_)
    slices_S2x2052x1024_S2x2048x1024_0_2_0) (transpose S1024x1024 [1, 0] (shapeCast _ (extractStridedSlice S1024x1024x1 ![0, 0, 1] W
    slices_S1024x1024x3_S1024x1024x1_0_0_1) shapeCasts_S1024x1024x1_S1024x1024) transposes_S1024x1024_S1024x1024_1_0))) (Host.dotGeneral
    dot_S2x2048x1024_S1024x1024_S2x2048x1024_2_0_01_1_n_n none (extractStridedSlice S2x2048x1024 ![0, 4, 0] (pad S2x2052x1024 ![0, 2, 0] ![0, 2, 0]
    ![0, 0, 0] (ln H G B) (sitofp .f32 (constantI S_ 32 0#32)) pads_S2x2048x1024_S2x2052x1024_000_220_000 h_S_)
    slices_S2x2052x1024_S2x2048x1024_0_4_0) (transpose S1024x1024 [1, 0] (shapeCast _ (extractStridedSlice S1024x1024x1 ![0, 0, 2] W
    slices_S1024x1024x3_S1024x1024x1_0_0_2) shapeCasts_S1024x1024x1_S1024x1024) transposes_S1024x1024_S1024x1024_1_0))) (broadcastInDim S2x2048x1024
    ![0, 1, 2] bcast_S1x1x1024_S2x2048x1024_0_1_2 (broadcastInDim S1x1x1024 ![2] bcast_S1024_S1x1x1024_2 A)))

/-- Its normalised rows at a place. -/
theorem ln_at (H : FVec Ideal S2x2048x1024 .f32) (G B : FVec Ideal S1024 .f32) (b : Fin 2) (l : Fin 2048) (k : Fin 1024) :
    ln H G B (ix3 b l k) = normRow (fun j => H (ix3 b l j)) (G (ix1 k)) (B (ix1 k)) k := by
  pointwise [ln]
  simp only [norm_eq]
  rfl

/-- The padding is zero. -/
theorem pad_zero : (FloatOps.sitofp FTy.f32 0#32 : Ideal .f32) = (0 : EReal) := by
  show (((0#32 : BitVec 32).toInt : ℝ) : EReal) = 0
  simp

/-- Its result at a place. -/
theorem ref_at (H : FVec Ideal S2x2048x1024 .f32) (G B : FVec Ideal S1024 .f32) (W : FVec Ideal S1024x1024x3 .f32) (A : FVec Ideal S1024 .f32)
    (b : Fin 2) (l : Fin 2048) (o : Fin 1024) : ref H G B W A (ix3 b l o) = H (ix3 b l o)
      + (∑ k : Fin 1024, (if h : 2 ≤ l.val then ln H G B (ix3 b ⟨l.val - 2, by omega⟩ k) else 0) * W (ix3 o k 0)
        + ∑ k : Fin 1024, ln H G B (ix3 b l k) * W (ix3 o k 1)
        + ∑ k : Fin 1024, (if h : l.val + 2 < 2048 then ln H G B (ix3 b ⟨l.val + 2, h⟩ k) else 0) * W (ix3 o k 2)
        + A (ix1 o)) := by
  pointwise [ref]
  refine congrArg _ (congrArg (· + _) (congrArg₂ (· + ·) (congrArg (· + _) ?_) ?_))
  · refine Finset.sum_congr rfl fun k _ => congrArg (· * _) ?_
    by_cases h : 2 ≤ l.val
    · rw [dif_pos h, dif_pos ⟨h, by omega⟩]
    · rw [dif_neg h, dif_neg fun e => h e.1, pad_zero]
  · refine Finset.sum_congr rfl fun k _ => congrArg (· * _) ?_
    by_cases h : l.val + 2 < 2048
    · rw [dif_pos h, dif_pos ⟨by omega, by omega⟩]
      exact congrArg (fun i => ln H G B (ix3 b i k)) (Fin.ext (by show 4 + l.val - 2 = l.val + 2; omega))
    · rw [dif_neg h, dif_neg fun e => h (by omega), pad_zero]

end Cert.ConvReferenceIdeal.Term
end

section
open Idealize.ShloMosaic Idealize.ShloMosaic.TcCoe Idealize.SL.Sem
namespace Cert.ConvIdeal.Pure
open Cert.ConvIdeal Cert.ConvIdeal.Gen Cert.Maths

/-- The block's normalised rows at a place. -/
theorem normed_at (g b : Vec Ideal S1x1024 .f32) (x : Vec Ideal S1x512x1024 .f32) (r : Fin 512) (k : Fin 1024) :
    k0_pay15 g b x (ix2 r k) = normRow (fun j => x (ix3 0 r j)) (g (ix2 0 k)) (b (ix2 0 k)) k := by
  pointwise [k0_pay15, k0_pay13, k0_pay14]
  rfl

/-- The rows two above, at a place: of the block before in the first two rows, zero there in the first block. -/
theorem above_at (i : BitVec 32) (g b : Vec Ideal S1x1024 .f32) (n : FVec Ideal S512x1024 .f32) (p : Vec Ideal S1x2x1024 .f32) (r : Fin 512) (k : Fin 1024) :
    k0_pay19 i (k0_pay13 g) (k0_pay14 b) n (k0_pay16 p) (k0_pay17 p) (k0_pay18 p) (Scalar.ofBits .f32 0x44800000#32) (ix2 r k)
      = if h : r.val < 2 then Scalar.select (Scalar.cmpi .eq i 0#32) (0 : EReal) (normRow (fun j => p (ix3 0 ⟨r.val, h⟩ j)) (g (ix2 0 k)) (b (ix2 0 k)) k)
        else n (ix2 ⟨r.val - 2, by omega⟩ k) := by
  pointwise [k0_pay13, k0_pay14, k0_pay16, k0_pay17, k0_pay18, k0_pay19]
  rfl

/-- The rows two below, at a place: of the block after in the last two rows, zero there in the last block. -/
theorem below_at (i : BitVec 32) (g b : Vec Ideal S1x1024 .f32) (n : FVec Ideal S512x1024 .f32) (p : Vec Ideal S1x2x1024 .f32) (r : Fin 512) (k : Fin 1024) :
    k0_pay20 i (k0_pay13 g) (k0_pay14 b) n p (ix2 r k)
      = if h : r.val < 510 then n (ix2 ⟨2 + r.val, by omega⟩ k)
        else Scalar.select (Scalar.cmpi .eq i 3#32) (0 : EReal) (normRow (fun j => p (ix3 0 ⟨r.val - 510, by omega⟩ j)) (g (ix2 0 k)) (b (ix2 0 k)) k) := by
  pointwise [k0_pay13, k0_pay14, k0_pay20]
  rfl

/-- The block's result at a place. -/
theorem out_at (n a e : FVec Ideal S512x1024 .f32) (x : Vec Ideal S1x512x1024 .f32) (w0 w1 w2 : Vec Ideal S1024x1024 .bf16) (c : Vec Ideal S1x1024 .f32)
    (z : Fin 1) (r : Fin 512) (o : Fin 1024) : k0_pay22 n a e x w0 w1 w2 c (ix3 z r o)
      = (show EReal from x (ix3 0 r o)) + ∑ k : Fin 1024, (show EReal from a (ix2 r k)) * (show EReal from w0 (ix2 o k))
        + ∑ k : Fin 1024, (show EReal from n (ix2 r k)) * (show EReal from w1 (ix2 o k))
        + ∑ k : Fin 1024, (show EReal from e (ix2 r k)) * (show EReal from w2 (ix2 o k)) + (show EReal from c (ix2 0 o)) := by
  pointwise [k0_pay21, k0_pay22]

/-- The first block is told by its number. -/
theorem sel_first (n : ℕ) (hn : n < 4) (x : EReal) : Scalar.select (Scalar.cmpi .eq (BitVec.ofNat 32 n) 0#32) (0 : EReal) x = if n = 0 then 0 else x := by
  interval_cases n <;> rfl

/-- So is the last. -/
theorem sel_last (n : ℕ) (hn : n < 4) (x : EReal) : Scalar.select (Scalar.cmpi .eq (BitVec.ofNat 32 n) 3#32) (0 : EReal) x = if n = 3 then 0 else x := by
  interval_cases n <;> rfl

open Cert.ConvReferenceIdeal.Term in
/-- Block `n` of batch `s`: what the kernel computes there is the reference's result there. -/
theorem conv_at (H : FVec Ideal S2x2048x1024 .f32) (G B : FVec Ideal S1024 .f32) (W : FVec Ideal Cert.ConvReferenceIdeal.S1024x1024x3 .f32) (A : FVec Ideal S1024 .f32)
    (s : Fin 2) (n : ℕ) (hn : n < 4) (g b c : Vec Ideal S1x1024 .f32) (x : Vec Ideal S1x512x1024 .f32) (p q : Vec Ideal S1x2x1024 .f32)
    (w0 w1 w2 : Vec Ideal S1024x1024 .bf16)
    (hg : ∀ k : Fin 1024, g (ix2 0 k) = G (ix1 k)) (hb : ∀ k : Fin 1024, b (ix2 0 k) = B (ix1 k)) (hc : ∀ k : Fin 1024, c (ix2 0 k) = A (ix1 k))
    (hx : ∀ (r : Fin 512) (k : Fin 1024), x (ix3 0 r k) = H (ix3 s ⟨n * 512 + r.val, by omega⟩ k))
    (hp : ∀ (h : 0 < n) (r : Fin 2) (k : Fin 1024), p (ix3 0 r k) = H (ix3 s ⟨n * 512 + r.val - 2, by omega⟩ k))
    (hq : ∀ (h : n < 3) (r : Fin 2) (k : Fin 1024), q (ix3 0 r k) = H (ix3 s ⟨n * 512 + 512 + r.val, by omega⟩ k))
    (h0 : ∀ o k : Fin 1024, w0 (ix2 o k) = W (ix3 o k 0)) (h1 : ∀ o k : Fin 1024, w1 (ix2 o k) = W (ix3 o k 1))
    (h2 : ∀ o k : Fin 1024, w2 (ix2 o k) = W (ix3 o k 2)) (z : Fin 1) (r : Fin 512) (o : Fin 1024) :
    k0_pay22 (k0_pay15 g b x)
        (k0_pay19 (BitVec.ofNat 32 n) (k0_pay13 g) (k0_pay14 b) (k0_pay15 g b x) (k0_pay16 p) (k0_pay17 p) (k0_pay18 p) (Scalar.ofBits .f32 0x44800000#32))
        (k0_pay20 (BitVec.ofNat 32 n) (k0_pay13 g) (k0_pay14 b) (k0_pay15 g b x) q) x w0 w1 w2 c (ix3 z r o)
      = ref H G B W A (ix3 s ⟨n * 512 + r.val, by omega⟩ o) := by
  have hln : ∀ (i : Fin 512) (k : Fin 1024), k0_pay15 g b x (ix2 i k) = ln H G B (ix3 s ⟨n * 512 + i.val, by omega⟩ k) := fun i k => by
    rw [normed_at, ln_at, hg, hb]
    exact congrArg (fun f => normRow f _ _ k) (funext fun j => hx i j)
  rw [out_at, ref_at, add_assoc, add_assoc, add_assoc]
  refine congrArg₂ (· + ·) (hx r o) ?_
  rw [← add_assoc, ← add_assoc]
  refine congrArg₂ (· + ·) (congrArg₂ (· + ·) (congrArg₂ (· + ·) ?_ ?_) ?_) (hc o)
  · refine Finset.sum_congr rfl fun k _ => congrArg₂ (· * ·) ?_ (h0 o k)
    refine (above_at _ g b _ p r k).trans ?_
    by_cases h : r.val < 2
    · rw [dif_pos h, sel_first n hn]
      by_cases h' : n = 0
      · rw [if_pos h', dif_neg (by show ¬ 2 ≤ n * 512 + r.val; omega)]
      · rw [if_neg h', dif_pos (show 2 ≤ n * 512 + r.val by omega), ln_at, hg, hb]
        exact congrArg (fun f => normRow f _ _ k) (funext fun j => hp (by omega) ⟨r.val, h⟩ j)
    · rw [dif_neg h, dif_pos (show 2 ≤ n * 512 + r.val by omega), hln]
      exact congrArg (fun i => ln H G B (ix3 s i k)) (Fin.ext (by show n * 512 + (r.val - 2) = n * 512 + r.val - 2; omega))
  · exact Finset.sum_congr rfl fun k _ => congrArg₂ (· * ·) (hln r k) (h1 o k)
  · refine Finset.sum_congr rfl fun k _ => congrArg₂ (· * ·) ?_ (h2 o k)
    refine (below_at _ g b _ q r k).trans ?_
    by_cases h : r.val < 510
    · rw [dif_pos h, dif_pos (show n * 512 + r.val + 2 < 2048 by omega), hln]
      exact congrArg (fun i => ln H G B (ix3 s i k)) (Fin.ext (by show n * 512 + (2 + r.val) = n * 512 + r.val + 2; omega))
    · rw [dif_neg h, sel_last n hn]
      by_cases h' : n = 3
      · rw [if_pos h', dif_neg (by show ¬ n * 512 + r.val + 2 < 2048; omega)]
      · rw [if_neg h', dif_pos (show n * 512 + r.val + 2 < 2048 by omega), ln_at, hg, hb]
        refine congrArg (fun f => normRow f _ _ k) (funext fun j => (hq (by omega) ⟨r.val - 510, by omega⟩ j).trans ?_)
        exact congrArg (fun i => H (ix3 s i j)) (Fin.ext (by show n * 512 + 512 + (r.val - 510) = n * 512 + r.val + 2; omega))

end Cert.ConvIdeal.Pure
end

end
-- ==== Proof.ConvIdeal.Values.lean ====
module

public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
/-! # The third call: the values one block computes -/

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off its array at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body computes from its input blocks -/

abbrev r0_rows : Rect S1x512x1024 := Rect.unit (s := S1x512x1024) ![0, 0, 0] S1x512x1024.size inb_S1x512x1024_S1x512x1024_0_0_0
abbrev r0_prev : Rect S1x8x1024 := Rect.unit (s := S1x8x1024) ![0, 6, 0] S1x2x1024.size inb_S1x8x1024_S1x2x1024_0_6_0
abbrev r0_next : Rect S1x8x1024 := Rect.unit (s := S1x8x1024) ![0, 0, 0] S1x2x1024.size inb_S1x8x1024_S1x2x1024_0_0_0
abbrev r0_row : Rect S1x1024 := Rect.unit (s := S1x1024) ![0, 0] S1x1024.size inb_S1x1024_S1x1024_0_0
abbrev r0_mat : Rect S1024x1024 := Rect.unit (s := S1024x1024) ![0, 0] S1024x1024.size inb_S1024x1024_S1024x1024_0_0
abbrev r0_gate : Rect S8x1024 := Rect.unit (s := S8x1024) ![0, 0] S8x1024.size inb_S8x1024_S8x1024_0_0
abbrev r0_bias : Rect S1x8 := Rect.unit (s := S1x8) ![0, 0] S1x8.size inb_S1x8_S1x8_0_0
abbrev r0_one : Rect S1x1 := Rect.unit (s := S1x1) ![0, 0] S1x1.size inb_S1x1_S1x1_0_0
abbrev r0_wsel : Rect S8x8 := Rect.unit (s := S8x8) ![0, 0] S8x8.size inb_S8x8_S8x8_0_0

/-- The values the body computes at a point: the blocks it holds, one field each. -/
structure Blocks0 (F : FTy → Type) where
  prev : Vec F S1x8x1024 .f32
  rows : Vec F S1x512x1024 .f32
  next : Vec F S1x8x1024 .f32
  g : Vec F S1x1024 .f32
  b : Vec F S1x1024 .f32
  w0 : Vec F S1024x1024 .bf16
  w1 : Vec F S1024x1024 .bf16
  w2 : Vec F S1024x1024 .bf16
  cb : Vec F S1x1024 .f32
  g3 : Vec F S1x1024 .f32
  b3 : Vec F S1x1024 .f32
  gw : Vec F S8x1024 .bf16
  gb : Vec F S1x8 .f32

namespace Blocks0

/-- The normalised rows of the block. -/
def normed (B : Blocks0 F) : FVec F S512x1024 .f32 := k0_pay15 (View.ld B.g r0_row) (View.ld B.b r0_row) (View.ld B.rows r0_rows)
/-- The normalised rows moved down by two, the two rows before the block entering at the top. -/
def above (B : Blocks0 F) (i : grid0.Coords) : FVec F S512x1024 .f32 :=
  k0_pay19 (BitVec.ofNat 32 (i 1).val) (k0_pay13 (View.ld B.g r0_row)) (k0_pay14 (View.ld B.b r0_row)) B.normed
    (k0_pay16 (View.ld B.prev r0_prev)) (k0_pay17 (View.ld B.prev r0_prev)) (k0_pay18 (View.ld B.prev r0_prev)) (Scalar.ofBits .f32 0x44800000#32)
/-- The normalised rows moved up by two, the two rows after the block entering at the bottom. -/
def below (B : Blocks0 F) (i : grid0.Coords) : FVec F S512x1024 .f32 :=
  k0_pay20 (BitVec.ofNat 32 (i 1).val) (k0_pay13 (View.ld B.g r0_row)) (k0_pay14 (View.ld B.b r0_row)) B.normed (View.ld B.next r0_next)
/-- The rows plus their convolution. -/
def conv (B : Blocks0 F) (i : grid0.Coords) : FVec F S512x1024 .f32 :=
  k0_pay21 B.normed (B.above i) (B.below i) (View.ld B.rows r0_rows) (View.ld B.w0 r0_mat) (View.ld B.w1 r0_mat) (View.ld B.w2 r0_mat) (View.ld B.cb r0_row)
/-- The same with the batch axis, as stored. -/
def convOut (B : Blocks0 F) (i : grid0.Coords) : FVec F S1x512x1024 .f32 :=
  k0_pay22 B.normed (B.above i) (B.below i) (View.ld B.rows r0_rows) (View.ld B.w0 r0_mat) (View.ld B.w1 r0_mat) (View.ld B.w2 r0_mat) (View.ld B.cb r0_row)
/-- Row means of `conv`. -/
def mean (B : Blocks0 F) (i : grid0.Coords) : FVec F S512x1 .f32 :=
  k0_pay25 B.normed (B.above i) (B.below i) (View.ld B.rows r0_rows) (View.ld B.w0 r0_mat) (View.ld B.w1 r0_mat) (View.ld B.w2 r0_mat) (View.ld B.cb r0_row)
/-- `conv` centred, squared. -/
def cent (B : Blocks0 F) (i : grid0.Coords) : FVec F S512x1024 .f32 :=
  k0_pay26 B.normed (B.above i) (B.below i) (View.ld B.rows r0_rows) (View.ld B.w0 r0_mat) (View.ld B.w1 r0_mat) (View.ld B.w2 r0_mat) (View.ld B.cb r0_row)
/-- The gate's softmax numerators. -/
def ex (B : Blocks0 F) (i : grid0.Coords) := k0_pay29 (B.conv i) (k0_pay23 (View.ld B.g3 r0_row)) (k0_pay24 (View.ld B.b3 r0_row)) (B.mean i) (B.cent i) (View.ld B.gw r0_gate) (View.ld B.gb r0_bias)
/-- Their row sums. -/
def exSum (B : Blocks0 F) (i : grid0.Coords) := k0_pay30 (B.conv i) (k0_pay23 (View.ld B.g3 r0_row)) (k0_pay24 (View.ld B.b3 r0_row)) (B.mean i) (B.cent i) (View.ld B.gw r0_gate) (View.ld B.gb r0_bias)
/-- The running entropy `a` plus this block's. -/
def entAdd (B : Blocks0 F) (i : grid0.Coords) (a : Vec F S1x1 .f32) : FVec F S1x1 .f32 :=
  k0_pay34 (B.conv i) (k0_pay23 (View.ld B.g3 r0_row)) (k0_pay24 (View.ld B.b3 r0_row)) (B.mean i) (B.cent i) (View.ld B.gw r0_gate) (View.ld B.gb r0_bias) a
/-- The first eight normalised rows for the experts. -/
def z8 (B : Blocks0 F) (i : grid0.Coords) : FVec F S8x1024 .f32 :=
  k0_pay33 (B.conv i) (k0_pay23 (View.ld B.g3 r0_row)) (k0_pay24 (View.ld B.b3 r0_row)) (B.mean i) (B.cent i)
/-- The gate weights of the first eight rows. -/
def wsel (B : Blocks0 F) (i : grid0.Coords) : FVec F S8x8 .f32 :=
  k0_pay31 k0_pay10 (k0_pay11 (B.ex i) (B.exSum i)) (k0_pay12 (B.ex i) (B.exSum i))
/-- The rows (and experts) chosen. -/
def chosen (B : Blocks0 F) (i : grid0.Coords) : IVec S1x8 32 :=
  k0_pay32 (iota .tc S8x1 32 [0] iota_S8x1_d0_w32) (k0_pay8 (B.ex i) (B.exSum i)) (k0_pay9 (B.ex i) (B.exSum i))

end Blocks0

/-- The condition of the last point, as the body computes it. -/
abbrev k0_last (i : grid0.Coords) : BitVec 1 :=
  Scalar.cmpi .ne (Scalar.extui (Scalar.andi (Scalar.cmpi .eq (BitVec.ofNat 32 (i 0).val) 1#32) (Scalar.cmpi .eq (BitVec.ofNat 32 (i 1).val) 3#32)) : BitVec 32) 0#32

/-- The stored values, from what the body has computed when it stores them. -/
theorem Blocks0.z8_of {i : grid0.Coords} (B : Blocks0 F) {a : FVec F S512x1024 .f32} {g b : FVec F S1x1024 .f32} {m : FVec F S512x1 .f32} {q : FVec F S512x1024 .f32}
    (ha : a = B.conv i) (hg : g = k0_pay23 (View.ld B.g3 r0_row)) (hb : b = k0_pay24 (View.ld B.b3 r0_row)) (hm : m = B.mean i)
    (hq : q = B.cent i) :
    k0_pay33 a g b m q = B.z8 i := by subst ha hg hb hm hq; rfl
theorem Blocks0.entAdd_of {i : grid0.Coords} (B : Blocks0 F) {a : FVec F S512x1024 .f32} {g b : FVec F S1x1024 .f32} {m : FVec F S512x1 .f32} {q : FVec F S512x1024 .f32} {w : Vec F S8x1024 .bf16} {v : Vec F S1x8 .f32}
    (ha : a = B.conv i) (hg : g = k0_pay23 (View.ld B.g3 r0_row)) (hb : b = k0_pay24 (View.ld B.b3 r0_row)) (hm : m = B.mean i)
    (hq : q = B.cent i) (hw : w = View.ld B.gw r0_gate) (hv : v = View.ld B.gb r0_bias) {x y : Vec F S1x1 .f32} (hx : x = y) :
    k0_pay34 a g b m q w v x = B.entAdd i y := by subst ha hg hb hm hq hw hv hx; rfl
theorem Blocks0.wsel_of {i : grid0.Coords} (B : Blocks0 F) {a : FVec F S512x1024 .f32} {g b : FVec F S1x1024 .f32} {m : FVec F S512x1 .f32} {q : FVec F S512x1024 .f32} {w : Vec F S8x1024 .bf16} {v : Vec F S1x8 .f32}
    (ha : a = B.conv i) (hg : g = k0_pay23 (View.ld B.g3 r0_row)) (hb : b = k0_pay24 (View.ld B.b3 r0_row)) (hm : m = B.mean i)
    (hq : q = B.cent i) (hw : w = View.ld B.gw r0_gate) (hv : v = View.ld B.gb r0_bias) :
    k0_pay31 k0_pay10 (k0_pay11 (k0_pay29 a g b m q w v) (k0_pay30 a g b m q w v)) (k0_pay12 (k0_pay29 a g b m q w v) (k0_pay30 a g b m q w v)) = B.wsel i := by
  subst ha hg hb hm hq hw hv; rfl
theorem Blocks0.chosen_of {i : grid0.Coords} (B : Blocks0 F) {a : FVec F S512x1024 .f32} {g b : FVec F S1x1024 .f32} {m : FVec F S512x1 .f32} {q : FVec F S512x1024 .f32} {w : Vec F S8x1024 .bf16} {v : Vec F S1x8 .f32}
    (ha : a = B.conv i) (hg : g = k0_pay23 (View.ld B.g3 r0_row)) (hb : b = k0_pay24 (View.ld B.b3 r0_row)) (hm : m = B.mean i)
    (hq : q = B.cent i) (hw : w = View.ld B.gw r0_gate) (hv : v = View.ld B.gb r0_bias) :
    k0_pay32 (iota .tc S8x1 32 [0] iota_S8x1_d0_w32) (k0_pay8 (k0_pay29 a g b m q w v) (k0_pay30 a g b m q w v)) (k0_pay9 (k0_pay29 a g b m q w v) (k0_pay30 a g b m q w v)) = B.chosen i := by
  subst ha hg hb hm hq hw hv; rfl

/-- The zero offset vectors, as the stores spell them. -/
theorem zero2 : (![0, 0] : Fin 2 → Nat) = fun _ => 0 := by decide
theorem zero3 : (![0, 0, 0] : Fin 3 → Nat) = fun _ => 0 := by decide

end Cert.ConvIdeal.Gen

end
-- ==== Proof.ConvIdeal.First.lean ====
module

public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
public import proofs.«01_k».proof.Proof.ConvIdeal.Values
/-! # The third call: the body at the first point -/

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the first point: the input buffers stay, the outputs it stores end at the values stated. -/
theorem sound_kernel0_A (c : Dev nD) (E : Set ℕ) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x1024 .bf16) (harg13 : arg13.IsWhole) (arg14 : Memref sig .tc .vmem S1x8 .f32) (harg14 : arg14.IsWhole) (arg15 : Memref sig .tc .vmem S1x512x1024 .f32) (harg15 : arg15.IsWhole) (arg16 : Memref sig .tc .vmem S1x1 .f32) (harg16 : arg16.IsWhole) (arg17 : Memref sig .tc .vmem S8x1024 .f32) (harg17 : arg17.IsWhole) (arg18 : Memref sig .tc .vmem S8x8 .f32) (harg18 : arg18.IsWhole) (arg19 : Memref sig .tc .vmem S1x8 .i32) (harg19 : arg19.IsWhole)
    (h1 : k0_cond1 i = 1#1) (h2 : ¬ k0_last i = 1#1) (B : Blocks0 F) (K : PUnit → sProp 𝕄) :
    iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ owns (c : Thread nD τ) arg15 fullShare (B.convOut i) ∗ owns (c : Thread nD τ) arg16 fullShare (B.entAdd i k0_pay2) ∗ owns (c : Thread nD τ) arg17 fullShare (B.z8 i) ∗ owns (c : Thread nD τ) arg18 fullShare (B.wsel i) ∗ owns (c : Thread nD τ) arg19 fullShare (B.chosen i)) -∗ K ⟨⟩))
      ⊢ wp frame (wpE (defs₀ (F := F)) Variants.none c none) E (cc0__conv_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x0, x1, x2, x3, x4, x5, x6, x7, x8, x9, x10, x11, x12⟩ := B
  dsimp only
  simp only [cc0__conv_gate_kernel_eq_skeleton]; unfold cc0__conv_gate_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact (Stores.read_all _ _ zero3 _ _ _).trans rfl
  isplitl [H14]
  · iexists _; isplitr
    swap; · iexact H14
    ipureintro
    refine (Stores.read_all _ _ zero2 _ _ _).trans ?_
    unfold sound_kernel0_A.sl.r_17 sound_kernel0_A.sl.v160
    refine Blocks0.entAdd_of _ ?_ ?_ ?_ ?_ ?_ ?_ ?_ (Stores.load_all (Val := Elt F) _ _ zero2 zero2 _ _ _ _) <;> rfl
  isplitl [H15]
  · iexists _; isplitr
    swap; · iexact H15
    ipureintro
    refine (Stores.read_all _ _ zero2 _ _ _).trans ?_
    refine Blocks0.z8_of _ ?_ ?_ ?_ ?_ ?_ <;> rfl
  isplitl [H16]
  · iexists _; isplitr
    swap; · iexact H16
    ipureintro
    refine (Stores.read_all _ _ zero2 _ _ _).trans ?_
    unfold sound_kernel0_A.sl.r_15 sound_kernel0_A.sl.r_16
    refine Blocks0.wsel_of _ ?_ ?_ ?_ ?_ ?_ ?_ ?_ <;> rfl
  iexists _; isplitr
  swap; · iexact H17
  ipureintro
  refine (Stores.read_all _ _ zero2 _ _ _).trans ?_
  unfold sound_kernel0_A.sl.r_13 sound_kernel0_A.sl.r_14 sound_kernel0_A.sl.v196
  refine Blocks0.chosen_of _ ?_ ?_ ?_ ?_ ?_ ?_ ?_ <;> rfl

end Cert.ConvIdeal.Gen

end
-- ==== Proof.ConvIdeal.Middle.lean ====
module

public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
public import proofs.«01_k».proof.Proof.ConvIdeal.Values
/-! # The third call: the body at the middle point -/

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a middle point: the input buffers stay, the outputs it stores end at the values stated. -/
theorem sound_kernel0_B (c : Dev nD) (E : Set ℕ) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x1024 .bf16) (harg13 : arg13.IsWhole) (arg14 : Memref sig .tc .vmem S1x8 .f32) (harg14 : arg14.IsWhole) (arg15 : Memref sig .tc .vmem S1x512x1024 .f32) (harg15 : arg15.IsWhole) (arg16 : Memref sig .tc .vmem S1x1 .f32) (harg16 : arg16.IsWhole) (arg17 : Memref sig .tc .vmem S8x1024 .f32) (harg17 : arg17.IsWhole) (arg18 : Memref sig .tc .vmem S8x8 .f32) (harg18 : arg18.IsWhole) (arg19 : Memref sig .tc .vmem S1x8 .i32) (harg19 : arg19.IsWhole)
    (h1 : ¬ k0_cond1 i = 1#1) (h2 : ¬ k0_last i = 1#1) (B : Blocks0 F) (a : Vec F S1x1 .f32) (K : PUnit → sProp 𝕄) :
    iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ (∃ d, owns (c : Thread nD τ) arg15 fullShare d) ∗ owns (c : Thread nD τ) arg16 fullShare a
        ∗ (iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ owns (c : Thread nD τ) arg15 fullShare (B.convOut i) ∗ owns (c : Thread nD τ) arg16 fullShare (B.entAdd i a)) -∗ K ⟨⟩))
      ⊢ wp frame (wpE (defs₀ (F := F)) Variants.none c none) E (cc0__conv_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x0, x1, x2, x3, x4, x5, x6, x7, x8, x9, x10, x11, x12⟩ := B
  dsimp only
  simp only [cc0__conv_gate_kernel_eq_skeleton]; unfold cc0__conv_gate_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  subst hf0 hf1 hf2 hf3 hf4 hf5 hf6 hf7 hf8 hf9 hf10 hf11 hf12 hf14
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact (Stores.read_all _ _ zero3 _ _ _).trans rfl
  iexists _; isplitr
  swap; · iexact H14
  ipureintro
  refine (Stores.read_all _ _ zero2 _ _ _).trans ?_
  refine Eq.trans ?_ (congrArg (Blocks0.entAdd _ i) (Stores.load_whole arg16.view f14 zero2 inb_S1x1_S1x1_0_0))
  rfl

end Cert.ConvIdeal.Gen

end
-- ==== Proof.ConvIdeal.Last.lean ====
module

public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
public import proofs.«01_k».proof.Proof.ConvIdeal.Values
/-! # The third call: the body at the last point -/

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the last point: the input buffers stay, the outputs it stores end at the values stated. -/
theorem sound_kernel0_C (c : Dev nD) (E : Set ℕ) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x1024 .bf16) (harg13 : arg13.IsWhole) (arg14 : Memref sig .tc .vmem S1x8 .f32) (harg14 : arg14.IsWhole) (arg15 : Memref sig .tc .vmem S1x512x1024 .f32) (harg15 : arg15.IsWhole) (arg16 : Memref sig .tc .vmem S1x1 .f32) (harg16 : arg16.IsWhole) (arg17 : Memref sig .tc .vmem S8x1024 .f32) (harg17 : arg17.IsWhole) (arg18 : Memref sig .tc .vmem S8x8 .f32) (harg18 : arg18.IsWhole) (arg19 : Memref sig .tc .vmem S1x8 .i32) (harg19 : arg19.IsWhole)
    (h1 : ¬ k0_cond1 i = 1#1) (h2 : k0_last i = 1#1) (B : Blocks0 F) (a : Vec F S1x1 .f32) (K : PUnit → sProp 𝕄) :
    iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ (∃ d, owns (c : Thread nD τ) arg15 fullShare d) ∗ owns (c : Thread nD τ) arg16 fullShare a
        ∗ (iprop(owns (c : Thread nD τ) arg2 fullShare B.prev ∗ owns (c : Thread nD τ) arg3 fullShare B.rows ∗ owns (c : Thread nD τ) arg4 fullShare B.next ∗ owns (c : Thread nD τ) arg5 fullShare B.g ∗ owns (c : Thread nD τ) arg6 fullShare B.b ∗ owns (c : Thread nD τ) arg7 fullShare B.w0 ∗ owns (c : Thread nD τ) arg8 fullShare B.w1 ∗ owns (c : Thread nD τ) arg9 fullShare B.w2 ∗ owns (c : Thread nD τ) arg10 fullShare B.cb ∗ owns (c : Thread nD τ) arg11 fullShare B.g3 ∗ owns (c : Thread nD τ) arg12 fullShare B.b3 ∗ owns (c : Thread nD τ) arg13 fullShare B.gw ∗ owns (c : Thread nD τ) arg14 fullShare B.gb ∗ owns (c : Thread nD τ) arg15 fullShare (B.convOut i) ∗ owns (c : Thread nD τ) arg16 fullShare (k0_pay1 (B.entAdd i a))) -∗ K ⟨⟩))
      ⊢ wp frame (wpE (defs₀ (F := F)) Variants.none c none) E (cc0__conv_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x0, x1, x2, x3, x4, x5, x6, x7, x8, x9, x10, x11, x12⟩ := B
  dsimp only
  simp only [cc0__conv_gate_kernel_eq_skeleton]; unfold cc0__conv_gate_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  subst hf0 hf1 hf2 hf3 hf4 hf5 hf6 hf7 hf8 hf9 hf10 hf11 hf12 hf14
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact (Stores.read_all _ _ zero3 _ _ _).trans rfl
  iexists _; isplitr
  swap; · iexact H14
  ipureintro
  refine (Stores.read_all _ _ zero2 _ _ _).trans (congrArg k0_pay1 ?_)
  refine (Stores.load_all _ _ zero2 zero2 _ _ _ _).trans ?_
  refine Eq.trans ?_ (congrArg (Blocks0.entAdd _ i) (Stores.load_whole arg16.view f14 zero2 inb_S1x1_S1x1_0_0))
  rfl

end Cert.ConvIdeal.Gen

end
-- ==== Proof.ConvIdeal.Body.lean ====
module

public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Stores
public import proofs.«01_k».proof.Proof.ConvIdeal.First
public import proofs.«01_k».proof.Proof.ConvIdeal.Middle
public import proofs.«01_k».proof.Proof.ConvIdeal.Last
/-! # The third call: convolution and gate, block by block -/

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The blocks the body holds at point `t`. -/
def blocks0 (c : Dev nD) (t : Fin cfg0.N) : Blocks0 F :=
  ⟨iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t, iblk0 V c 11 t, iblk0 V c 12 t⟩

/-- The running entropy after point `n`: started at zero, one block added at each point, scaled at the last. -/
def aux0 (c : Dev nD) : Nat → Vec F S1x1 .f32
  | 0 => (blocks0 V c t0_0).entAdd (grid0.coords t0_0) k0_pay2
  | n + 1 =>
    if h : n + 1 < grid0.N then
      if n + 1 = 7 then k0_pay1 ((blocks0 V c ⟨n + 1, h⟩).entAdd (grid0.coords ⟨n + 1, h⟩) (aux0 c n))
      else (blocks0 V c ⟨n + 1, h⟩).entAdd (grid0.coords ⟨n + 1, h⟩) (aux0 c n)
    else aux0 c n

/-- Proof data of call 2: inputs keep their blocks; the convolved rows are stored at every point, the entropy runs on, and
    the experts' rows, weights and choice are those of the first point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => (blocks0 V c t).convOut (grid0.coords t)
    | ⟨14, _⟩ => aux0 V c t.val
    | ⟨15, _⟩ => (blocks0 V c t0_0).z8 (grid0.coords t0_0)
    | ⟨16, _⟩ => (blocks0 V c t0_0).wsel (grid0.coords t0_0)
    | ⟨17, _⟩ => (blocks0 V c t0_0).chosen (grid0.coords t0_0)
    | ⟨_ + 18, h⟩ => absurd h (Nat.not_lt.2 (Nat.le_add_left _ _))
  Φ _ := Pipeline.ΦA spec0 c
  q w := Pipeline.shareOf spec0 w
  owed _ := 0

/-- The arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = (blocks0 V c t).convOut (grid0.coords t) := by dsimp only [dat0]
theorem after0_14 (c : Dev nD) (t : Fin cfg0.N) : (dat0 V c).after 14 t = aux0 V c t.val := by dsimp only [dat0]
theorem after0_15 (c : Dev nD) (t : Fin cfg0.N) : (dat0 V c).after 15 t = (blocks0 V c t0_0).z8 (grid0.coords t0_0) := by dsimp only [dat0]
theorem after0_16 (c : Dev nD) (t : Fin cfg0.N) : (dat0 V c).after 16 t = (blocks0 V c t0_0).wsel (grid0.coords t0_0) := by dsimp only [dat0]
theorem after0_17 (c : Dev nD) (t : Fin cfg0.N) : (dat0 V c).after 17 t = (blocks0 V c t0_0).chosen (grid0.coords t0_0) := by dsimp only [dat0]

/-- An input window holds its block when the body runs, fetched at this point or left from an earlier one. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [A_eq0]; try rfl) t d).trans
    (by unfold Dat.fetched Dat.blockOf iblk0; rw [A_eq0]; try rfl)

/-! ## The points -/

/-- The body's first condition holds at the first point only. -/
theorem first0 : ∀ t : Fin grid0.N, k0_cond1 (grid0.coords t) = 1#1 ↔ t.val = 0 := by decide +kernel
/-- Its last condition holds at the last point only. -/
theorem last0 : ∀ t : Fin grid0.N, k0_last (grid0.coords t) = 1#1 ↔ t.val = 7 := by decide +kernel

/-- The running entropy, when the body runs after the first point, is what the point before left. -/
theorem before0_14 (c : Dev nD) (t : Fin cfg0.N) (h : t.val ≠ 0) (d) : (dat0 V c).before 14 t d = aux0 V c (t.val - 1) := by
  have hN : t.val < 8 := lt_of_lt_of_eq t.isLt N_0
  rw [Dat.before_of_pos _ 14 t h rfl]
  rw [if_neg (fun e => by have := (flush0_14 _).1 e; dsimp only at this; omega)]
  unfold Dat.left
  exact (after0_14 V c ⟨t.val - 1, _⟩)

/-- The window is live at the first point. -/
theorem live0_15 : cfg0.idle 15 (cfg0.grid.coords t0_0) = false := by decide +kernel
/-- What the first point stored is still there at every later one. -/
theorem before0_15 (c : Dev nD) (d) : ∀ (n : Nat) (hn : n + 1 < cfg0.N), (dat0 V c).before 15 ⟨n + 1, hn⟩ d = (blocks0 V c t0_0).z8 (grid0.coords t0_0)
  | n, hn => by
    have hN : n + 1 < 8 := lt_of_lt_of_eq hn N_0
    rw [Dat.before_of_pos _ 15 _ (Nat.succ_ne_zero n) rfl, if_neg (fun e => by have := (flush0_15 _).1 e; dsimp only at this; omega)]
    unfold Dat.left
    cases n with
    | zero =>
      rw [show cfg0.idle 15 (cfg0.grid.coords ⟨0 + 1 - 1, Nat.lt_of_le_of_lt (Nat.sub_le _ _) hn⟩) = false from live0_15]
      exact (after0_15 V c _)
    | succ n =>
      rw [show cfg0.idle 15 (cfg0.grid.coords ⟨n + 1 + 1 - 1, Nat.lt_of_le_of_lt (Nat.sub_le _ _) hn⟩) = true from by
        show (!(k0_cond1 (grid0.coords ⟨n + 1, _⟩) == 1#1)) = true
        rw [Bool.not_eq_true', beq_eq_false_iff_ne]
        exact fun e => Nat.succ_ne_zero n ((first0 _).1 e)]
      exact before0_15 c d n (by omega)

/-- The window is live at the first point. -/
theorem live0_16 : cfg0.idle 16 (cfg0.grid.coords t0_0) = false := by decide +kernel
/-- What the first point stored is still there at every later one. -/
theorem before0_16 (c : Dev nD) (d) : ∀ (n : Nat) (hn : n + 1 < cfg0.N), (dat0 V c).before 16 ⟨n + 1, hn⟩ d = (blocks0 V c t0_0).wsel (grid0.coords t0_0)
  | n, hn => by
    have hN : n + 1 < 8 := lt_of_lt_of_eq hn N_0
    rw [Dat.before_of_pos _ 16 _ (Nat.succ_ne_zero n) rfl, if_neg (fun e => by have := (flush0_16 _).1 e; dsimp only at this; omega)]
    unfold Dat.left
    cases n with
    | zero =>
      rw [show cfg0.idle 16 (cfg0.grid.coords ⟨0 + 1 - 1, Nat.lt_of_le_of_lt (Nat.sub_le _ _) hn⟩) = false from live0_16]
      exact (after0_16 V c _)
    | succ n =>
      rw [show cfg0.idle 16 (cfg0.grid.coords ⟨n + 1 + 1 - 1, Nat.lt_of_le_of_lt (Nat.sub_le _ _) hn⟩) = true from by
        show (!(k0_cond1 (grid0.coords ⟨n + 1, _⟩) == 1#1)) = true
        rw [Bool.not_eq_true', beq_eq_false_iff_ne]
        exact fun e => Nat.succ_ne_zero n ((first0 _).1 e)]
      exact before0_16 c d n (by omega)

/-- The window is live at the first point. -/
theorem live0_17 : cfg0.idle 17 (cfg0.grid.coords t0_0) = false := by decide +kernel
/-- What the first point stored is still there at every later one. -/
theorem before0_17 (c : Dev nD) (d) : ∀ (n : Nat) (hn : n + 1 < cfg0.N), (dat0 V c).before 17 ⟨n + 1, hn⟩ d = (blocks0 V c t0_0).chosen (grid0.coords t0_0)
  | n, hn => by
    have hN : n + 1 < 8 := lt_of_lt_of_eq hn N_0
    rw [Dat.before_of_pos _ 17 _ (Nat.succ_ne_zero n) rfl, if_neg (fun e => by have := (flush0_17 _).1 e; dsimp only at this; omega)]
    unfold Dat.left
    cases n with
    | zero =>
      rw [show cfg0.idle 17 (cfg0.grid.coords ⟨0 + 1 - 1, Nat.lt_of_le_of_lt (Nat.sub_le _ _) hn⟩) = false from live0_17]
      exact (after0_17 V c _)
    | succ n =>
      rw [show cfg0.idle 17 (cfg0.grid.coords ⟨n + 1 + 1 - 1, Nat.lt_of_le_of_lt (Nat.sub_le _ _) hn⟩) = true from by
        show (!(k0_cond1 (grid0.coords ⟨n + 1, _⟩) == 1#1)) = true
        rw [Bool.not_eq_true', beq_eq_false_iff_ne]
        exact fun e => Nat.succ_ne_zero n ((first0 _).1 e)]
      exact before0_17 c d n (by omega)

/-! ## The body obligation -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ (dat0 V c).leavesExact 15 t
    ∗ (dat0 V c).leavesExact 16 t
    ∗ (dat0 V c).leavesExact 17 t)

set_option maxHeartbeats 4000000 in
/-- The body between the two. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  have hN : t.val < 8 := lt_of_lt_of_eq t.isLt N_0
  by_cases h0 : t.val = 0
  · obtain rfl : t = t0_0 := Fin.ext h0
    rw [show (dat0 V c).leavesExact 15 t0_0 = owns (c : Thread nD τ) (st0_15 t0_0) fullShare ((dat0 V c).after 15 t0_0) from by
      unfold Dat.leavesExact; rw [show cfg0.idle 15 (cfg0.grid.coords t0_0) = false from live0_15]; try rfl, after0_15]
    rw [show (dat0 V c).leavesExact 16 t0_0 = owns (c : Thread nD τ) (st0_16 t0_0) fullShare ((dat0 V c).after 16 t0_0) from by
      unfold Dat.leavesExact; rw [show cfg0.idle 16 (cfg0.grid.coords t0_0) = false from live0_16]; try rfl, after0_16]
    rw [show (dat0 V c).leavesExact 17 t0_0 = owns (c : Thread nD τ) (st0_17 t0_0) fullShare ((dat0 V c).after 17 t0_0) from by
      unfold Dat.leavesExact; rw [show cfg0.idle 17 (cfg0.grid.coords t0_0) = false from live0_17]; try rfl, after0_17]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (sound_kernel0_A c Set.univ (grid0.coords t0_0) _ _ _ _ _ _ _ _ _ _ _ _ _ _ _ _ _ _ _ _ _ _ _ _ _ _ _ _ _ _ _ _ _ _ _ _ ((first0 t0_0).2 rfl) (fun e => absurd ((last0 t0_0).1 e) (by decide)) (blocks0 V c t0_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · have hidle : k0_cond1 (grid0.coords t) ≠ 1#1 := fun e => h0 ((first0 t).1 e)
    obtain ⟨n, hn, rfl⟩ : ∃ n, ∃ hn : n + 1 < cfg0.N, t = ⟨n + 1, hn⟩ :=
      ⟨t.val - 1, by have := t.isLt; omega, Fin.ext (by show t.val = t.val - 1 + 1; omega)⟩
    have hi15 : cfg0.idle 15 (cfg0.grid.coords ⟨n + 1, hn⟩) = true := by
      show (!(k0_cond1 (grid0.coords ⟨n + 1, hn⟩) == 1#1)) = true
      rw [Bool.not_eq_true', beq_eq_false_iff_ne]; exact hidle
    have hi16 : cfg0.idle 16 (cfg0.grid.coords ⟨n + 1, hn⟩) = true := by
      show (!(k0_cond1 (grid0.coords ⟨n + 1, hn⟩) == 1#1)) = true
      rw [Bool.not_eq_true', beq_eq_false_iff_ne]; exact hidle
    have hi17 : cfg0.idle 17 (cfg0.grid.coords ⟨n + 1, hn⟩) = true := by
      show (!(k0_cond1 (grid0.coords ⟨n + 1, hn⟩) == 1#1)) = true
      rw [Bool.not_eq_true', beq_eq_false_iff_ne]; exact hidle
    by_cases h7 : n + 1 = 7
    · rw [show (dat0 V c).leavesExact 15 ⟨n + 1, hn⟩ = owns (c : Thread nD τ) (st0_15 ⟨n + 1, hn⟩) fullShare ((dat0 V c).after 15 ⟨n + 1, hn⟩) from by
        unfold Dat.leavesExact; rw [hi15, (flush0_15 ⟨n + 1, hn⟩).2 (by show (n + 1) % 8 = 7; omega)]; try rfl, after0_15]
      rw [show (dat0 V c).leavesExact 16 ⟨n + 1, hn⟩ = owns (c : Thread nD τ) (st0_16 ⟨n + 1, hn⟩) fullShare ((dat0 V c).after 16 ⟨n + 1, hn⟩) from by
        unfold Dat.leavesExact; rw [hi16, (flush0_16 ⟨n + 1, hn⟩).2 (by show (n + 1) % 8 = 7; omega)]; try rfl, after0_16]
      rw [show (dat0 V c).leavesExact 17 ⟨n + 1, hn⟩ = owns (c : Thread nD τ) (st0_17 ⟨n + 1, hn⟩) fullShare ((dat0 V c).after 17 ⟨n + 1, hn⟩) from by
        unfold Dat.leavesExact; rw [hi17, (flush0_17 ⟨n + 1, hn⟩).2 (by show (n + 1) % 8 = 7; omega)]; try rfl, after0_17]
      have haux : aux0 V c (n + 1) = k0_pay1 ((blocks0 V c ⟨n + 1, hn⟩).entAdd (grid0.coords ⟨n + 1, hn⟩) (aux0 V c n)) := by
        rw [aux0, dif_pos hn, if_pos h7]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (sound_kernel0_C c Set.univ (grid0.coords ⟨n + 1, hn⟩) _ _ _ _ _ _ _ _ _ _ _ _ _ _ _ _ _ _ _ _ _ _ _ _ _ _ _ _ _ _ _ _ _ _ _ _ (fun e => h0 ((first0 ⟨n + 1, hn⟩).1 e)) ((last0 ⟨n + 1, hn⟩).2 h7) (blocks0 V c ⟨n + 1, hn⟩) (aux0 V c (n)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · rw [show aux0 V c (n) = (dat0 V c).before 14 ⟨n + 1, hn⟩ d14 from (before0_14 V c ⟨n + 1, hn⟩ h0 d14).symm]; iexact H14
      iintro ⟨H0, H1, H2, H3, H4, H5, H6, H7, H8, H9, H10, H11, H12, H13, H14⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      rw [← haux]
      isplitl [H14]; · iexact H14
      isplitl [H15]; · rw [← before0_15 V c d15 n hn]; iexact H15
      isplitl [H16]; · rw [← before0_16 V c d16 n hn]; iexact H16
      rw [← before0_17 V c d17 n hn]; iexact H17
    · rw [show (dat0 V c).leavesExact 15 ⟨n + 1, hn⟩ = iprop(∃ d, owns (c : Thread nD τ) (st0_15 ⟨n + 1, hn⟩) fullShare ((dat0 V c).before 15 ⟨n + 1, hn⟩ d)) from by
        unfold Dat.leavesExact; rw [hi15, show (cfg0.win 15).flush ⟨n + 1, hn⟩ = false from Bool.eq_false_iff.2 fun e => by
          have := (flush0_15 ⟨n + 1, hn⟩).1 e; dsimp only at this hN; omega]; try rfl]
      rw [show (dat0 V c).leavesExact 16 ⟨n + 1, hn⟩ = iprop(∃ d, owns (c : Thread nD τ) (st0_16 ⟨n + 1, hn⟩) fullShare ((dat0 V c).before 16 ⟨n + 1, hn⟩ d)) from by
        unfold Dat.leavesExact; rw [hi16, show (cfg0.win 16).flush ⟨n + 1, hn⟩ = false from Bool.eq_false_iff.2 fun e => by
          have := (flush0_16 ⟨n + 1, hn⟩).1 e; dsimp only at this hN; omega]; try rfl]
      rw [show (dat0 V c).leavesExact 17 ⟨n + 1, hn⟩ = iprop(∃ d, owns (c : Thread nD τ) (st0_17 ⟨n + 1, hn⟩) fullShare ((dat0 V c).before 17 ⟨n + 1, hn⟩ d)) from by
        unfold Dat.leavesExact; rw [hi17, show (cfg0.win 17).flush ⟨n + 1, hn⟩ = false from Bool.eq_false_iff.2 fun e => by
          have := (flush0_17 ⟨n + 1, hn⟩).1 e; dsimp only at this hN; omega]; try rfl]
      have haux : aux0 V c (n + 1) = (blocks0 V c ⟨n + 1, hn⟩).entAdd (grid0.coords ⟨n + 1, hn⟩) (aux0 V c n) := by
        rw [aux0, dif_pos hn, if_neg h7]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (sound_kernel0_B c Set.univ (grid0.coords ⟨n + 1, hn⟩) _ _ _ _ _ _ _ _ _ _ _ _ _ _ _ _ _ _ _ _ _ _ _ _ _ _ _ _ _ _ _ _ _ _ _ _ (fun e => h0 ((first0 ⟨n + 1, hn⟩).1 e)) (fun e => h7 ((last0 ⟨n + 1, hn⟩).1 e)) (blocks0 V c ⟨n + 1, hn⟩) (aux0 V c (n)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · rw [show aux0 V c (n) = (dat0 V c).before 14 ⟨n + 1, hn⟩ d14 from (before0_14 V c ⟨n + 1, hn⟩ h0 d14).symm]; iexact H14
      iintro ⟨H0, H1, H2, H3, H4, H5, H6, H7, H8, H9, H10, H11, H12, H13, H14⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      rw [← haux]
      isplitl [H14]; · iexact H14
      isplitl [H15]; · iexists d15; iexact H15
      isplitl [H16]; · iexists d16; iexact H16
      iexists d17; iexact H17

/-- The body table's row at point `t`'s slots is the body as `bodyAt0` spells it. -/
theorem defs₀_row2 (t : Fin cfg0.N) :
    defs₀ (F := F) .tc cfg0.body (cfg0.bodyArgs t (cfg0.slots t)) = bodyAt0 t := by
  unfold defs₀; rw [Defs.onTc_tc]

/-- The body obligation at every grid point. -/
theorem body_obligation0 (c : Dev nD) : BodyObligation (dat0 (F := F) V c) (defs₀ (F := F)) Variants.none () Set.univ := fun t => by
  rw [bigSep_W0, bigSep_W0, defs₀_row2]
  exact triple_restated (sound_body0 V c t) rfl .rfl fun _ => .rfl

end Cert.ConvIdeal.Gen

end
-- ==== Proof.ConvIdeal.Run.lean ====
module

public import proofs.«01_k».proof.Proof.Gen.ConvIdeal.Frame
public import proofs.«01_k».proof.Proof.ConvIdeal.Body
public import Idealize.ShloMosaic.Lib.Claim
/-! # The third call, run alone -/

@[expose] public section

set_option maxRecDepth 16384

noncomputable section

namespace Cert.ConvIdeal.Gen

open Idealize.ShloMosaic Idealize.ShloMosaic.TcCoe
open Idealize.SL.RA Idealize.SL.Sem
open Idealize.ShloMosaic.Pipeline (Dat)

variable {F : FTy → Type} [FloatOps F]
variable (m : (ℓ : Loc nD τ sig) → Buf (Elt F) ℓ) (ρ : Dev nD → PrngReg)

/-- The call's proof data at what its arrays hold when it begins. -/
def dats (_ : Fin 1) (c : Dev nD) : Dat τ (Elt F) Unit ℕ (UR sig nD τ) ℕ cfg0 c := dat0 (V m) c

set_option backward.isDefEq.respectTransparency.types false in
/-- The program ends, with the arrays at what the proof data say and every counter at zero. -/
theorem runs : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation0 (V m) c).loose) (hq := fun _ _ _ => rfl)
    (howed := fun _ _ => rfl) (V := V m) (hmain := hmain m Variants.none) (hA := A_eq0 (V m)) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (runs m ρ)

/-- The arguments end unchanged and every counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (fun c => A_eq0 (V m) c) (run_main m ρ)) ((θ_run defs _ _).mono (fun _ h => h.2) (runs m ρ))

end Cert.ConvIdeal.Gen

end
-- ==== Proof.ConvIdeal.Value.lean ====
module

public import proofs.«01_k».proof.Proof.ConvIdeal.Pure
public import proofs.«01_k».proof.Proof.ConvIdeal.Run
public import Idealize.ShloMosaic.Lib.Pipeline.ValueKit
public import Idealize.ShloMosaic.Lib.Claim
/-! # The third call adds the rows' convolution -/

@[expose] public section

set_option maxRecDepth 16384

noncomputable section

namespace Cert.ConvIdeal.Value

open Idealize.ShloMosaic Idealize.ShloMosaic.TcCoe Idealize.SL.Sem
open Idealize.ShloMosaic.Pipeline (Dat)
open Cert.ConvIdeal Cert.ConvIdeal.Gen

variable (m : (ℓ : Loc nD τ sig) → Buf (Elt Ideal) ℓ)

/-- The windows' block indices at every point. -/
theorem idx : ∀ t : Fin cfg0.N, win0_0.index t = ![(grid0.coords t 0).val, (grid0.coords t 1).val * 64 - 1, 0]
    ∧ win0_1.index t = ![(grid0.coords t 0).val, (grid0.coords t 1).val, 0]
    ∧ win0_2.index t = ![(grid0.coords t 0).val, min ((grid0.coords t 1).val * 64 + 64) 255, 0]
    ∧ win0_3.index t = ![0, 0] ∧ win0_4.index t = ![0, 0] ∧ win0_5.index t = ![0, 0] ∧ win0_6.index t = ![0, 0] ∧ win0_7.index t = ![0, 0]
    ∧ win0_8.index t = ![0, 0]
    ∧ win0_13.index t = ![(grid0.coords t 0).val, (grid0.coords t 1).val, 0] ∧ (grid0.coords t 0).val < 2 ∧ (grid0.coords t 1).val < 4 :=
  (by decide +kernel : ∀ t : Fin grid0.N, _)

/-- What the body stores at an index of its block is the reference's result at the place the block has in the array. -/
theorem point (c : Dev nD) (t : Fin cfg0.N) (y) :
    (blocks0 (V m) c t).convOut (grid0.coords t) y
      = Cert.ConvReferenceIdeal.Term.ref (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 13).blk t).view.emb y) := by
  obtain ⟨i0, i1, i2, i3, i4, i5, i6, i7, i8, i13, hs, hn⟩ := idx t
  rw [eq_ix3 y]
  refine (Cert.ConvIdeal.Pure.conv_at (m ((c : Thread nD τ).loc main_arg0)) (m ((c : Thread nD τ).loc main_arg1)) (m ((c : Thread nD τ).loc main_arg2))
        (m ((c : Thread nD τ).loc main_arg3)) (m ((c : Thread nD τ).loc main_arg4)) ⟨_, hs⟩ _ hn _ _ _ _ _ _ _ _ _ ?_ ?_ ?_ ?_ ?_ ?_ ?_ ?_ ?_ _ _ _).trans ?_
  rotate_right
  · refine congrArg _ ?_
    blk_ext [idx t]
  all_goals
    intros
    pointwise [blocks0]
    blk_point [iblk0, V, idx t]

/-- The array after the run is the reference's result. -/
theorem final (c : Dev nD) : (dats m 0 c).arrAt 13 (cfgs 0).N
    = Cert.ConvReferenceIdeal.Term.ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 13 _ (by decide +kernel) fun t _ y => ?_
  blk_simp
  exact point m c t y

end Cert.ConvIdeal.Value

end
-- ==== Proof.lean ====
/- The claims of this certificate, assembled from the modules under Proof/. -/
module

public import proofs.«01_k».proof.Defs
public import proofs.«01_k».proof.Proof.Kernel.Run
public import proofs.«01_k».proof.Proof.KernelIdeal.Run
public import proofs.«01_k».proof.Proof.Gen.Qkv.Frame
public import proofs.«01_k».proof.Proof.Gen.QkvIdeal.Frame
public import proofs.«01_k».proof.Proof.Qkv.Value
public import proofs.«01_k».proof.Proof.Gen.Attn.Frame
public import proofs.«01_k».proof.Proof.AttnIdeal.Claims
public import proofs.«01_k».proof.Proof.Conv.Run
public import proofs.«01_k».proof.Proof.ConvIdeal.Value
public import Idealize.ShloMosaic.Lib.Claim
public import Idealize.ShloMosaic.Adequacy
public import Idealize.ShloMosaic.Init

@[expose] public section

noncomputable section

namespace Cert.Proof

open Idealize.ShloMosaic Idealize.SL.Sem

/-- The references end with their arguments unchanged; they declare no semaphore. -/
theorem qkvReferenceFrame : Cert.quiescent_QkvReferenceIdeal := fun m g _ => by
  hlo_run
  all_goals first | exact fun _ => ⟨trivial, trivial, trivial, trivial, trivial⟩ | exact sem_eq_zero_of_no_sems (sig := Cert.QkvReferenceIdeal.sig) rfl _

theorem convReferenceFrame : Cert.quiescent_ConvReferenceIdeal := fun m g _ => by
  hlo_run
  all_goals first
    | exact fun _ => ⟨trivial, trivial, trivial, trivial, trivial, trivial, trivial, trivial, trivial⟩
    | exact sem_eq_zero_of_no_sems (sig := Cert.ConvReferenceIdeal.sig) rfl _

/-- The first call's value. -/
theorem qkvValue : Cert.algebraic_QkvIdeal_QkvReferenceIdeal := by
  pair_intro
  · run_from Cert.QkvIdeal.Gen.run_main m g
  · hlo_run
    exact (Cert.QkvIdeal.Value.final m c).symm

/-- The third call's value. -/
theorem convValue : Cert.algebraic_ConvIdeal_ConvReferenceIdeal := by
  pair_intro
  · run_from Cert.ConvIdeal.Gen.run_main m g
  · hlo_run
    exact (Cert.ConvIdeal.Value.final m c).symm

/-- The certificate. -/
theorem claim : Cert.Claim := ⟨Cert.Kernel.Gen.facts, Cert.KernelIdeal.Gen.facts, Cert.Qkv.Gen.facts, Cert.QkvIdeal.Gen.facts,
    Cert.QkvReferenceIdeal.Gen.facts, Cert.Attn.Gen.facts, Cert.AttnIdeal.Gen.facts, Cert.AttnReferenceIdeal.Gen.facts,
    Cert.Conv.Gen.facts, Cert.ConvIdeal.Gen.facts, Cert.ConvReferenceIdeal.Gen.facts, Cert.Pre_attn_finite.Gen.facts,
    fun m g _ => Cert.Kernel.Gen.frame m g, fun m g _ => Cert.KernelIdeal.Gen.frame m g,
    fun m g _ => Cert.Qkv.Gen.frame m g, fun m g _ => Cert.QkvIdeal.Gen.frame m g, qkvReferenceFrame,
    fun m g _ => Cert.Attn.Gen.frame m g, fun m g _ => Cert.AttnIdeal.Gen.frame m g, fun m g _ => Cert.AttnIdeal.Gen.frame m g,
    Cert.AttnIdeal.Claims.referenceFrame, fun m g _ => Cert.AttnIdeal.Claims.referenceFrame m g trivial,
    fun m g _ => Cert.Conv.Gen.frame m g, fun m g _ => Cert.ConvIdeal.Gen.frame m g, convReferenceFrame,
    trivial, trivial, qkvValue, trivial, Cert.AttnIdeal.Claims.value, trivial, convValue⟩

end Cert.Proof

end
